-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_in_range [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_indices_in_range [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_indices_in_range [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_indices_in_range : Cert.Pre_indices_in_range.Facts),
    quiescent_Kernel (hKernel := hKernel)
    ∧ quiescent_KernelIdeal (hKernelIdeal := hKernelIdeal)
    ∧ quiescent_KernelIdeal_pre_indices_in_range (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ preserves_Kernel_KernelIdeal
    ∧ algebraic_KernelIdeal_ReferenceIdeal_pre_indices_in_range (hKernelIdeal := hKernelIdeal) (hReferenceIdeal := hReferenceIdeal) (hPre_indices_in_range := hPre_indices_in_range)
-- ==== Pre_indices_in_range.lean ====
abbrev S4096 : Shape := ⟨1, ![4096]⟩
abbrev S4096x8 : Shape := ⟨2, ![4096, 8]⟩
abbrev S4096x200 : Shape := ⟨2, ![4096, 200]⟩
abbrev S7x3 : Shape := ⟨2, ![7, 3]⟩
abbrev S48x6 : Shape := ⟨2, ![48, 6]⟩
abbrev S9x3 : Shape := ⟨2, ![9, 3]⟩
abbrev S3x8 : Shape := ⟨2, ![3, 8]⟩
abbrev S_ : Shape := ⟨0, ![]⟩

class Facts : Prop where
  bcast_S_S4096 : S_.BroadcastsInDim S4096 (![] : Fin 0 → Fin S4096.rank)
  bcast_S_S4096x200 : S_.BroadcastsInDim S4096x200 (![] : Fin 0 → Fin S4096x200.rank)

variable [Facts]

def fn {F : FTy → Type} [FloatOps F] (main_arg0 : IVec S4096 32) (main_arg1 : IVec S4096 32) (main_arg2 : FVec F S4096x8 .f32) (main_arg3 : FVec F S4096x200 .f32) (main_arg4 : FVec F S4096x200 .f32) (main_arg5 : FVec F S4096x200 .f32) (main_arg6 : FVec F S4096x200 .f32) (main_arg7 : FVec F S4096x200 .f32) (main_arg8 : IVec S4096x200 32) (main_arg9 : FVec F S7x3 .f32) (main_arg10 : FVec F S48x6 .f32) (main_arg11 : FVec F S9x3 .f32) (main_arg12 : FVec F S3x8 .f32) : IVec S4096 1 × IVec S4096 1 × IVec S4096x200 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 7#32
  let main_v2 : IVec S4096 32 := broadcastInDim S4096 ![] bcast_S_S4096 main_c_0
  let main_v3 : IVec S4096 1 := cmpi .slt main_arg0 main_v2
  let main_v4 : IVec S4096 1 := andi main_v1 main_v3
  let main_c_1 : IVec S_ 32 := constantI S_ 32 0#32
  let main_v5 : IVec S4096 32 := broadcastInDim S4096 ![] bcast_S_S4096 main_c_1
  let main_v6 : IVec S4096 1 := cmpi .sge main_arg1 main_v5
  let main_c_2 : IVec S_ 32 := constantI S_ 32 48#32
  let main_v7 : IVec S4096 32 := broadcastInDim S4096 ![] bcast_S_S4096 main_c_2
  let main_v8 : IVec S4096 1 := cmpi .slt main_arg1 main_v7
  let main_v9 : IVec S4096 1 := andi main_v6 main_v8
  let main_c_3 : IVec S_ 32 := constantI S_ 32 0#32
  let main_v10 : IVec S4096x200 32 := broadcastInDim S4096x200 ![] bcast_S_S4096x200 main_c_3
  let main_v11 : IVec S4096x200 1 := cmpi .sge main_arg8 main_v10
  let main_c_4 : IVec S_ 32 := constantI S_ 32 9#32
  let main_v12 : IVec S4096x200 32 := broadcastInDim S4096x200 ![] bcast_S_S4096x200 main_c_4
  let main_v13 : IVec S4096x200 1 := cmpi .slt main_arg8 main_v12
  let main_v14 : IVec S4096x200 1 := andi main_v11 main_v13
  (main_v4, main_v9, main_v14)
-- ==== Kernel.lean ====
abbrev S4096 : Shape := ⟨1, ![4096]⟩
abbrev S4096x8 : Shape := ⟨2, ![4096, 8]⟩
abbrev S4096x200 : Shape := ⟨2, ![4096, 200]⟩
abbrev S7x3 : Shape := ⟨2, ![7, 3]⟩
abbrev S48x6 : Shape := ⟨2, ![48, 6]⟩
abbrev S9x3 : Shape := ⟨2, ![9, 3]⟩
abbrev S3x8 : Shape := ⟨2, ![3, 8]⟩
abbrev S4096x1 : Shape := ⟨2, ![4096, 1]⟩
abbrev S_ : Shape := ⟨0, ![]⟩
abbrev S13x20 : Shape := ⟨2, ![13, 20]⟩
abbrev S5 : Shape := ⟨1, ![5]⟩
abbrev S5x1 : Shape := ⟨2, ![5, 1]⟩
abbrev S5x2 : Shape := ⟨2, ![5, 2]⟩
abbrev S8x3 : Shape := ⟨2, ![8, 3]⟩
abbrev S1 : Shape := ⟨1, ![1]⟩
abbrev S2 : Shape := ⟨1, ![2]⟩
abbrev S63x20 : Shape := ⟨2, ![63, 20]⟩
abbrev S512 : Shape := ⟨1, ![512]⟩
abbrev S512x1 : Shape := ⟨2, ![512, 1]⟩
abbrev S64 : Shape := ⟨1, ![64]⟩
abbrev S1x64 : Shape := ⟨2, ![1, 64]⟩
abbrev S512x64 : Shape := ⟨2, ![512, 64]⟩
abbrev S4096x200x20 : Shape := ⟨3, ![4096, 200, 20]⟩
abbrev S4096x12 : Shape := ⟨2, ![4096, 12]⟩
abbrev S64x200 : Shape := ⟨2, ![64, 200]⟩
abbrev S64x1 : Shape := ⟨2, ![64, 1]⟩
abbrev S64x8 : Shape := ⟨2, ![64, 8]⟩
abbrev S64x200x20 : Shape := ⟨3, ![64, 200, 20]⟩
abbrev S64x12 : Shape := ⟨2, ![64, 12]⟩
abbrev S64x1x200 : Shape := ⟨3, ![64, 1, 200]⟩
abbrev S64x13x200 : Shape := ⟨3, ![64, 13, 200]⟩
abbrev S64x200x13 : Shape := ⟨3, ![64, 200, 13]⟩
abbrev S12800x13 : Shape := ⟨2, ![12800, 13]⟩
abbrev S12800x20 : Shape := ⟨2, ![12800, 20]⟩
abbrev S64x7 : Shape := ⟨2, ![64, 7]⟩
abbrev S64x48 : Shape := ⟨2, ![64, 48]⟩
abbrev S64x63 : Shape := ⟨2, ![64, 63]⟩
abbrev S64x20 : Shape := ⟨2, ![64, 20]⟩
abbrev S512x20 : Shape := ⟨2, ![512, 20]⟩
abbrev S64x8x20 : Shape := ⟨3, ![64, 8, 20]⟩

abbrev nBuf : Space → Nat
  | .hbm => 95
  | .vmem => 25
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S4096x8, .f32⟩
  | .hbm, ⟨3, _⟩ => ⟨S4096x200, .f32⟩
  | .hbm, ⟨4, _⟩ => ⟨S4096x200, .f32⟩
  | .hbm, ⟨5, _⟩ => ⟨S4096x200, .f32⟩
  | .hbm, ⟨6, _⟩ => ⟨S4096x200, .f32⟩
  | .hbm, ⟨7, _⟩ => ⟨S4096x200, .f32⟩
  | .hbm, ⟨8, _⟩ => ⟨S4096x200, .i32⟩
  | .hbm, ⟨9, _⟩ => ⟨S7x3, .f32⟩
  | .hbm, ⟨10, _⟩ => ⟨S48x6, .f32⟩
  | .hbm, ⟨11, _⟩ => ⟨S9x3, .f32⟩
  | .hbm, ⟨12, _⟩ => ⟨S3x8, .f32⟩
  | .hbm, ⟨13, _⟩ => ⟨S4096x1, .i32⟩
  | .hbm, ⟨14, _⟩ => ⟨S4096x1, .i32⟩
  | .hbm, ⟨15, _⟩ => ⟨S_, .f32⟩
  | .hbm, ⟨16, _⟩ => ⟨S13x20, .f32⟩
  | .hbm, ⟨17, _⟩ => ⟨S5, .i32⟩
  | .hbm, ⟨18, _⟩ => ⟨S5, .i32⟩
  | .hbm, ⟨19, _⟩ => ⟨S_, .i32⟩
  | .hbm, ⟨20, _⟩ => ⟨S5, .i32⟩
  | .hbm, ⟨21, _⟩ => ⟨S5, .i1⟩
  | .hbm, ⟨22, _⟩ => ⟨S_, .i32⟩
  | .hbm, ⟨23, _⟩ => ⟨S5, .i32⟩
  | .hbm, ⟨24, _⟩ => ⟨S5, .i32⟩
  | .hbm, ⟨25, _⟩ => ⟨S5, .i32⟩
  | .hbm, ⟨26, _⟩ => ⟨S_, .i32⟩
  | .hbm, ⟨27, _⟩ => ⟨S5, .i32⟩
  | .hbm, ⟨28, _⟩ => ⟨S5, .i1⟩
  | .hbm, ⟨29, _⟩ => ⟨S_, .i32⟩
  | .hbm, ⟨30, _⟩ => ⟨S5, .i32⟩
  | .hbm, ⟨31, _⟩ => ⟨S5, .i32⟩
  | .hbm, ⟨32, _⟩ => ⟨S5, .i32⟩
  | .hbm, ⟨33, _⟩ => ⟨S5x1, .i32⟩
  | .hbm, ⟨34, _⟩ => ⟨S5x1, .i32⟩
  | .hbm, ⟨35, _⟩ => ⟨S5x2, .i32⟩
  | .hbm, ⟨36, _⟩ => ⟨S_, .f32⟩
  | .hbm, ⟨37, _⟩ => ⟨S5, .f32⟩
  | .hbm, ⟨38, _⟩ => ⟨S13x20, .f32⟩
  | .hbm, ⟨39, _⟩ => ⟨S8x3, .f32⟩
  | .hbm, ⟨40, _⟩ => ⟨S_, .i32⟩
  | .hbm, ⟨41, _⟩ => ⟨S1, .i32⟩
  | .hbm, ⟨42, _⟩ => ⟨S_, .i32⟩
  | .hbm, ⟨43, _⟩ => ⟨S1, .i32⟩
  | .hbm, ⟨44, _⟩ => ⟨S2, .i32⟩
  | .hbm, ⟨45, _⟩ => ⟨S13x20, .f32⟩
  | .hbm, ⟨46, _⟩ => ⟨S_, .f32⟩
  | .hbm, ⟨47, _⟩ => ⟨S63x20, .f32⟩
  | .hbm, ⟨48, _⟩ => ⟨S_, .i32⟩
  | .hbm, ⟨49, _⟩ => ⟨S1, .i32⟩
  | .hbm, ⟨50, _⟩ => ⟨S_, .i32⟩
  | .hbm, ⟨51, _⟩ => ⟨S1, .i32⟩
  | .hbm, ⟨52, _⟩ => ⟨S2, .i32⟩
  | .hbm, ⟨53, _⟩ => ⟨S63x20, .f32⟩
  | .hbm, ⟨54, _⟩ => ⟨S_, .i32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S2, .i32⟩
  | .hbm, ⟨59, _⟩ => ⟨S63x20, .f32⟩
  | .hbm, ⟨60, _⟩ => ⟨S8x3, .f32⟩
  | .hbm, ⟨61, _⟩ => ⟨S_, .i32⟩
  | .hbm, ⟨62, _⟩ => ⟨S1, .i32⟩
  | .hbm, ⟨63, _⟩ => ⟨S_, .i32⟩
  | .hbm, ⟨64, _⟩ => ⟨S1, .i32⟩
  | .hbm, ⟨65, _⟩ => ⟨S2, .i32⟩
  | .hbm, ⟨66, _⟩ => ⟨S63x20, .f32⟩
  | .hbm, ⟨67, _⟩ => ⟨S512, .i32⟩
  | .hbm, ⟨68, _⟩ => ⟨S512x1, .i32⟩
  | .hbm, ⟨69, _⟩ => ⟨S_, .i32⟩
  | .hbm, ⟨70, _⟩ => ⟨S_, .i32⟩
  | .hbm, ⟨71, _⟩ => ⟨S512x1, .i32⟩
  | .hbm, ⟨72, _⟩ => ⟨S512x1, .i32⟩
  | .hbm, ⟨73, _⟩ => ⟨S512x1, .i32⟩
  | .hbm, ⟨74, _⟩ => ⟨S_, .i32⟩
  | .hbm, ⟨75, _⟩ => ⟨S512x1, .i32⟩
  | .hbm, ⟨76, _⟩ => ⟨S512x1, .i1⟩
  | .hbm, ⟨77, _⟩ => ⟨S512x1, .i32⟩
  | .hbm, ⟨78, _⟩ => ⟨S512x1, .i32⟩
  | .hbm, ⟨79, _⟩ => ⟨S_, .i32⟩
  | .hbm, ⟨80, _⟩ => ⟨S512x1, .i32⟩
  | .hbm, ⟨81, _⟩ => ⟨S512x1, .i1⟩
  | .hbm, ⟨82, _⟩ => ⟨S512x1, .i1⟩
  | .hbm, ⟨83, _⟩ => ⟨S_, .i32⟩
  | .hbm, ⟨84, _⟩ => ⟨S512x1, .i32⟩
  | .hbm, ⟨85, _⟩ => ⟨S512x1, .i32⟩
  | .hbm, ⟨86, _⟩ => ⟨S512x1, .i32⟩
  | .hbm, ⟨87, _⟩ => ⟨S64, .i32⟩
  | .hbm, ⟨88, _⟩ => ⟨S1x64, .i32⟩
  | .hbm, ⟨89, _⟩ => ⟨S512x64, .i32⟩
  | .hbm, ⟨90, _⟩ => ⟨S512x64, .i32⟩
  | .hbm, ⟨91, _⟩ => ⟨S512x64, .i1⟩
  | .hbm, ⟨92, _⟩ => ⟨S512x64, .f32⟩
  | .hbm, ⟨93, _⟩ => ⟨S4096x200x20, .f32⟩
  | .hbm, ⟨94, _⟩ => ⟨S4096x12, .f32⟩
  | .local _ .vmem, ⟨0, _⟩ => ⟨S64x200, .f32⟩
  | .local _ .vmem, ⟨1, _⟩ => ⟨S64x200, .f32⟩
  | .local _ .vmem, ⟨2, _⟩ => ⟨S64x200, .f32⟩
  | .local _ .vmem, ⟨3, _⟩ => ⟨S64x200, .f32⟩
  | .local _ .vmem, ⟨4, _⟩ => ⟨S64x200, .f32⟩
  | .local _ .vmem, ⟨5, _⟩ => ⟨S64x200, .f32⟩
  | .local _ .vmem, ⟨6, _⟩ => ⟨S64x200, .f32⟩
  | .local _ .vmem, ⟨7, _⟩ => ⟨S64x200, .f32⟩
  | .local _ .vmem, ⟨8, _⟩ => ⟨S64x200, .f32⟩
  | .local _ .vmem, ⟨9, _⟩ => ⟨S64x200, .f32⟩
  | .local _ .vmem, ⟨10, _⟩ => ⟨S64x200, .i32⟩
  | .local _ .vmem, ⟨11, _⟩ => ⟨S64x200, .i32⟩
  | .local _ .vmem, ⟨12, _⟩ => ⟨S64x1, .i32⟩
  | .local _ .vmem, ⟨13, _⟩ => ⟨S64x1, .i32⟩
  | .local _ .vmem, ⟨14, _⟩ => ⟨S64x1, .i32⟩
  | .local _ .vmem, ⟨15, _⟩ => ⟨S64x1, .i32⟩
  | .local _ .vmem, ⟨16, _⟩ => ⟨S64x8, .f32⟩
  | .local _ .vmem, ⟨17, _⟩ => ⟨S64x8, .f32⟩
  | .local _ .vmem, ⟨18, _⟩ => ⟨S13x20, .f32⟩
  | .local _ .vmem, ⟨19, _⟩ => ⟨S63x20, .f32⟩
  | .local _ .vmem, ⟨20, _⟩ => ⟨S512x64, .f32⟩
  | .local _ .vmem, ⟨21, _⟩ => ⟨S64x200x20, .f32⟩
  | .local _ .vmem, ⟨22, _⟩ => ⟨S64x200x20, .f32⟩
  | .local _ .vmem, ⟨23, _⟩ => ⟨S64x12, .f32⟩
  | .local _ .vmem, ⟨24, _⟩ => ⟨S64x12, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c : Ref sig .tc := ⟨.hbm, 19, rfl⟩
abbrev main_call0_v5 : Ref sig .tc := ⟨.hbm, 20, rfl⟩
abbrev main_call0_v6 : Ref sig .tc := ⟨.hbm, 21, rfl⟩
abbrev main_call0_c_0 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_c_1 : Ref sig .tc := ⟨.hbm, 26, rfl⟩
abbrev main_call0_v10 : Ref sig .tc := ⟨.hbm, 27, rfl⟩
abbrev main_call0_v11 : Ref sig .tc := ⟨.hbm, 28, rfl⟩
abbrev main_call0_c_2 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_v15 : Ref sig .tc := ⟨.hbm, 33, rfl⟩
abbrev main_call0_v16 : Ref sig .tc := ⟨.hbm, 34, rfl⟩
abbrev main_call0_v17 : Ref sig .tc := ⟨.hbm, 35, rfl⟩
abbrev main_call0_cst_3 : Ref sig .tc := ⟨.hbm, 36, rfl⟩
abbrev main_call0_v18 : Ref sig .tc := ⟨.hbm, 37, rfl⟩
abbrev main_call0_v19 : Ref sig .tc := ⟨.hbm, 38, rfl⟩
abbrev main_call0_v20 : Ref sig .tc := ⟨.hbm, 39, rfl⟩
abbrev main_call0_c_4 : Ref sig .tc := ⟨.hbm, 40, rfl⟩
abbrev main_call0_v21 : Ref sig .tc := ⟨.hbm, 41, rfl⟩
abbrev main_call0_c_5 : Ref sig .tc := ⟨.hbm, 42, rfl⟩
abbrev main_call0_v22 : Ref sig .tc := ⟨.hbm, 43, rfl⟩
abbrev main_call0_v23 : Ref sig .tc := ⟨.hbm, 44, rfl⟩
abbrev main_call0_v24 : Ref sig .tc := ⟨.hbm, 45, rfl⟩
abbrev main_call0_cst_6 : Ref sig .tc := ⟨.hbm, 46, rfl⟩
abbrev main_call0_v25 : Ref sig .tc := ⟨.hbm, 47, rfl⟩
abbrev main_call0_c_7 : Ref sig .tc := ⟨.hbm, 48, rfl⟩
abbrev main_call0_v26 : Ref sig .tc := ⟨.hbm, 49, rfl⟩
abbrev main_call0_c_8 : Ref sig .tc := ⟨.hbm, 50, rfl⟩
abbrev main_call0_v27 : Ref sig .tc := ⟨.hbm, 51, rfl⟩
abbrev main_call0_v28 : Ref sig .tc := ⟨.hbm, 52, rfl⟩
abbrev main_call0_v29 : Ref sig .tc := ⟨.hbm, 53, rfl⟩
abbrev main_call0_c_9 : Ref sig .tc := ⟨.hbm, 54, rfl⟩
abbrev main_call0_v30 : Ref sig .tc := ⟨.hbm, 55, rfl⟩
abbrev main_call0_c_10 : Ref sig .tc := ⟨.hbm, 56, rfl⟩
abbrev main_call0_v31 : Ref sig .tc := ⟨.hbm, 57, rfl⟩
abbrev main_call0_v32 : Ref sig .tc := ⟨.hbm, 58, rfl⟩
abbrev main_call0_v33 : Ref sig .tc := ⟨.hbm, 59, rfl⟩
abbrev main_call0_v34 : Ref sig .tc := ⟨.hbm, 60, rfl⟩
abbrev main_call0_c_11 : Ref sig .tc := ⟨.hbm, 61, rfl⟩
abbrev main_call0_v35 : Ref sig .tc := ⟨.hbm, 62, rfl⟩
abbrev main_call0_c_12 : Ref sig .tc := ⟨.hbm, 63, rfl⟩
abbrev main_call0_v36 : Ref sig .tc := ⟨.hbm, 64, rfl⟩
abbrev main_call0_v37 : Ref sig .tc := ⟨.hbm, 65, rfl⟩
abbrev main_call0_v38 : Ref sig .tc := ⟨.hbm, 66, rfl⟩
abbrev main_call0_v39 : Ref sig .tc := ⟨.hbm, 67, rfl⟩
abbrev main_call0_v40 : Ref sig .tc := ⟨.hbm, 68, rfl⟩
abbrev main_call0_c_13 : Ref sig .tc := ⟨.hbm, 69, rfl⟩
abbrev main_call0_call0_v0 : Ref sig .tc := ⟨.hbm, 70, rfl⟩
abbrev main_call0_call0_v1 : Ref sig .tc := ⟨.hbm, 71, rfl⟩
abbrev main_call0_call0_v2 : Ref sig .tc := ⟨.hbm, 72, rfl⟩
abbrev main_call0_call0_v3 : Ref sig .tc := ⟨.hbm, 73, rfl⟩
abbrev main_call0_call0_v4 : Ref sig .tc := ⟨.hbm, 74, rfl⟩
abbrev main_call0_call0_v5 : Ref sig .tc := ⟨.hbm, 75, rfl⟩
abbrev main_call0_call0_v6 : Ref sig .tc := ⟨.hbm, 76, rfl⟩
abbrev main_call0_call0_v7 : Ref sig .tc := ⟨.hbm, 77, rfl⟩
abbrev main_call0_call0_v8 : Ref sig .tc := ⟨.hbm, 78, rfl⟩
abbrev main_call0_call0_c : Ref sig .tc := ⟨.hbm, 79, rfl⟩
abbrev main_call0_call0_v9 : Ref sig .tc := ⟨.hbm, 80, rfl⟩
abbrev main_call0_call0_v10 : Ref sig .tc := ⟨.hbm, 81, rfl⟩
abbrev main_call0_call0_v11 : Ref sig .tc := ⟨.hbm, 82, rfl⟩
abbrev main_call0_call0_c_0 : Ref sig .tc := ⟨.hbm, 83, rfl⟩
abbrev main_call0_call0_v12 : Ref sig .tc := ⟨.hbm, 84, rfl⟩
abbrev main_call0_call0_v13 : Ref sig .tc := ⟨.hbm, 85, rfl⟩
abbrev main_call0_v41 : Ref sig .tc := ⟨.hbm, 86, rfl⟩
abbrev main_call0_v42 : Ref sig .tc := ⟨.hbm, 87, rfl⟩
abbrev main_call0_v43 : Ref sig .tc := ⟨.hbm, 88, rfl⟩
abbrev main_call0_v44 : Ref sig .tc := ⟨.hbm, 89, rfl⟩
abbrev main_call0_v45 : Ref sig .tc := ⟨.hbm, 90, rfl⟩
abbrev main_call0_v46 : Ref sig .tc := ⟨.hbm, 91, rfl⟩
abbrev main_call0_v47 : Ref sig .tc := ⟨.hbm, 92, rfl⟩
abbrev main_v0_0 : Ref sig .tc := ⟨.hbm, 93, rfl⟩
abbrev main_v0_1 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x200 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S13x20 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S63x20 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S64x200x20 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x12 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S4096 : Shape := ⟨1, ![4096]⟩
abbrev S4096x8 : Shape := ⟨2, ![4096, 8]⟩
abbrev S4096x200 : Shape := ⟨2, ![4096, 200]⟩
abbrev S7x3 : Shape := ⟨2, ![7, 3]⟩
abbrev S48x6 : Shape := ⟨2, ![48, 6]⟩
abbrev S9x3 : Shape := ⟨2, ![9, 3]⟩
abbrev S3x8 : Shape := ⟨2, ![3, 8]⟩
abbrev S4096x200x1 : Shape := ⟨3, ![4096, 200, 1]⟩
abbrev S4096x200x2 : Shape := ⟨3, ![4096, 200, 2]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x3 : Shape := ⟨2, ![4096, 3]⟩
abbrev S4096x6 : Shape := ⟨2, ![4096, 6]⟩
abbrev S8x3 : Shape := ⟨2, ![8, 3]⟩
abbrev S4096x12 : Shape := ⟨2, ![4096, 12]⟩
abbrev S4096x1x12 : Shape := ⟨3, ![4096, 1, 12]⟩
abbrev S4096x200x12 : Shape := ⟨3, ![4096, 200, 12]⟩
abbrev S3 : Shape := ⟨1, ![3]⟩
abbrev S1x1x1 : Shape := ⟨3, ![1, 1, 1]⟩
abbrev S4096x200x3 : Shape := ⟨3, ![4096, 200, 3]⟩
abbrev S4096x200x15 : Shape := ⟨3, ![4096, 200, 15]⟩
abbrev S4096x200x20 : Shape := ⟨3, ![4096, 200, 20]⟩

abbrev nBuf : Space → Nat
  | .hbm => 100
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S4096x8, .f32⟩
  | .hbm, ⟨3, _⟩ => ⟨S4096x200, .f32⟩
  | .hbm, ⟨4, _⟩ => ⟨S4096x200, .f32⟩
  | .hbm, ⟨5, _⟩ => ⟨S4096x200, .f32⟩
  | .hbm, ⟨6, _⟩ => ⟨S4096x200, .f32⟩
  | .hbm, ⟨7, _⟩ => ⟨S4096x200, .f32⟩
  | .hbm, ⟨8, _⟩ => ⟨S4096x200, .i32⟩
  | .hbm, ⟨9, _⟩ => ⟨S7x3, .f32⟩
  | .hbm, ⟨10, _⟩ => ⟨S48x6, .f32⟩
  | .hbm, ⟨11, _⟩ => ⟨S9x3, .f32⟩
  | .hbm, ⟨12, _⟩ => ⟨S3x8, .f32⟩
  | .hbm, ⟨13, _⟩ => ⟨S4096x200x1, .f32⟩
  | .hbm, ⟨14, _⟩ => ⟨S4096x200x1, .f32⟩
  | .hbm, ⟨15, _⟩ => ⟨S4096x200x2, .f32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S4096x1, .i32⟩
  | .hbm, ⟨24, _⟩ => ⟨S1, .i32⟩
  | .hbm, ⟨25, _⟩ => ⟨S_, .i32⟩
  | .hbm, ⟨26, _⟩ => ⟨S4096x1, .i32⟩
  | .hbm, ⟨27, _⟩ => ⟨S4096x1, .i1⟩
  | .hbm, ⟨28, _⟩ => ⟨S1x1, .i32⟩
  | .hbm, ⟨29, _⟩ => ⟨S4096x1, .i32⟩
  | .hbm, ⟨30, _⟩ => ⟨S4096x1, .i1⟩
  | .hbm, ⟨31, _⟩ => ⟨S4096x1, .i1⟩
  | .hbm, ⟨32, _⟩ => ⟨S_, .i1⟩
  | .hbm, ⟨33, _⟩ => ⟨S4096, .i1⟩
  | .hbm, ⟨34, _⟩ => ⟨S4096x3, .f32⟩
  | .hbm, ⟨35, _⟩ => ⟨S4096x3, .i1⟩
  | .hbm, ⟨36, _⟩ => ⟨S_, .f32⟩
  | .hbm, ⟨37, _⟩ => ⟨S4096x3, .f32⟩
  | .hbm, ⟨38, _⟩ => ⟨S4096x3, .f32⟩
  | .hbm, ⟨39, _⟩ => ⟨S_, .i32⟩
  | .hbm, ⟨40, _⟩ => ⟨S4096, .i32⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S4096x1, .i32⟩
  | .hbm, ⟨47, _⟩ => ⟨S1, .i32⟩
  | .hbm, ⟨48, _⟩ => ⟨S_, .i32⟩
  | .hbm, ⟨49, _⟩ => ⟨S4096x1, .i32⟩
  | .hbm, ⟨50, _⟩ => ⟨S4096x1, .i1⟩
  | .hbm, ⟨51, _⟩ => ⟨S1x1, .i32⟩
  | .hbm, ⟨52, _⟩ => ⟨S4096x1, .i32⟩
  | .hbm, ⟨53, _⟩ => ⟨S4096x1, .i1⟩
  | .hbm, ⟨54, _⟩ => ⟨S4096x1, .i1⟩
  | .hbm, ⟨55, _⟩ => ⟨S_, .i1⟩
  | .hbm, ⟨56, _⟩ => ⟨S4096, .i1⟩
  | .hbm, ⟨57, _⟩ => ⟨S4096x6, .f32⟩
  | .hbm, ⟨58, _⟩ => ⟨S4096x6, .i1⟩
  | .hbm, ⟨59, _⟩ => ⟨S_, .f32⟩
  | .hbm, ⟨60, _⟩ => ⟨S4096x6, .f32⟩
  | .hbm, ⟨61, _⟩ => ⟨S4096x6, .f32⟩
  | .hbm, ⟨62, _⟩ => ⟨S8x3, .f32⟩
  | .hbm, ⟨63, _⟩ => ⟨S4096x3, .f32⟩
  | .hbm, ⟨64, _⟩ => ⟨S4096x12, .f32⟩
  | .hbm, ⟨65, _⟩ => ⟨S4096x1x12, .f32⟩
  | .hbm, ⟨66, _⟩ => ⟨S4096x200x12, .f32⟩
  | .hbm, ⟨67, _⟩ => ⟨S_, .i32⟩
  | .hbm, ⟨68, _⟩ => ⟨S1, .i32⟩
  | .hbm, ⟨69, _⟩ => ⟨S_, .f32⟩
  | .hbm, ⟨70, _⟩ => ⟨S3, .f32⟩
  | .hbm, ⟨71, _⟩ => ⟨S9x3, .f32⟩
  | .hbm, ⟨72, _⟩ => ⟨S_, .i32⟩
  | .hbm, ⟨73, _⟩ => ⟨S4096x200, .i32⟩
  | .hbm, ⟨74, _⟩ => ⟨S4096x200, .i1⟩
  | .hbm, ⟨75, _⟩ => ⟨S_, .i32⟩
  | .hbm, ⟨76, _⟩ => ⟨S4096x200, .i32⟩
  | .hbm, ⟨77, _⟩ => ⟨S4096x200, .i32⟩
  | .hbm, ⟨78, _⟩ => ⟨S4096x200, .i32⟩
  | .hbm, ⟨79, _⟩ => ⟨S4096x200x1, .i32⟩
  | .hbm, ⟨80, _⟩ => ⟨S1, .i32⟩
  | .hbm, ⟨81, _⟩ => ⟨S_, .i32⟩
  | .hbm, ⟨82, _⟩ => ⟨S4096x200x1, .i32⟩
  | .hbm, ⟨83, _⟩ => ⟨S4096x200x1, .i1⟩
  | .hbm, ⟨84, _⟩ => ⟨S1x1x1, .i32⟩
  | .hbm, ⟨85, _⟩ => ⟨S4096x200x1, .i32⟩
  | .hbm, ⟨86, _⟩ => ⟨S4096x200x1, .i1⟩
  | .hbm, ⟨87, _⟩ => ⟨S4096x200x1, .i1⟩
  | .hbm, ⟨88, _⟩ => ⟨S_, .i1⟩
  | .hbm, ⟨89, _⟩ => ⟨S4096x200, .i1⟩
  | .hbm, ⟨90, _⟩ => ⟨S4096x200x3, .f32⟩
  | .hbm, ⟨91, _⟩ => ⟨S4096x200x3, .i1⟩
  | .hbm, ⟨92, _⟩ => ⟨S_, .f32⟩
  | .hbm, ⟨93, _⟩ => ⟨S4096x200x3, .f32⟩
  | .hbm, ⟨94, _⟩ => ⟨S4096x200x3, .f32⟩
  | .hbm, ⟨95, _⟩ => ⟨S4096x200x15, .f32⟩
  | .hbm, ⟨96, _⟩ => ⟨S4096x200x1, .f32⟩
  | .hbm, ⟨97, _⟩ => ⟨S4096x200x1, .f32⟩
  | .hbm, ⟨98, _⟩ => ⟨S4096x200x1, .f32⟩
  | .hbm, ⟨99, _⟩ => ⟨S4096x200x20, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v3 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v4 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_c : Ref sig .tc := ⟨.hbm, 67, rfl⟩
abbrev main_v10 : Ref sig .tc := ⟨.hbm, 68, rfl⟩
abbrev main_cst : Ref sig .tc := ⟨.hbm, 69, rfl⟩
abbrev main_v11 : Ref sig .tc := ⟨.hbm, 70, rfl⟩
abbrev main_v12 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_c_1 : Ref sig .tc := ⟨.hbm, 80, rfl⟩
abbrev main_call2_c_2 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_3 : Ref sig .tc := ⟨.hbm, 88, rfl⟩
abbrev main_call2_v12 : Ref sig .tc := ⟨.hbm, 89, rfl⟩
abbrev main_call2_v13 : Ref sig .tc := ⟨.hbm, 90, rfl⟩
abbrev main_call2_v14 : Ref sig .tc := ⟨.hbm, 91, rfl⟩
abbrev main_call2_cst : Ref sig .tc := ⟨.hbm, 92, rfl⟩
abbrev main_call2_v15 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩

abbrev nD : Nat := 1
abbrev τ : Topo := Topo.v7x

variable {F : FTy → Type} [FloatOps F]
-- ==== Proof.WriteWindow.lean ====
/-
  A scatter whose body keeps the update, read at one entry of a matrix.

  Two forms are needed for the tables that the kernel is given: a whole rectangle of entries written at one literal corner
  (`table.at[r : r + u, c : c + v].set(block)`), and a list of single entries written at pairs of words
  (`table.at[rows, columns].set(values)`).
-/
module

public import Idealize.ShloMosaic.Lib.Pointwise
public import Idealize.ShloMosaic.Lib.Routing.OpsSet
public import Idealize.ShloMosaic.Lib.Routing.OpsPair

@[expose] public section

namespace Cert.WriteWindow

open Idealize.ShloMosaic

/-! ## A rectangle at one corner -/

section Rectangle
variable {α : Type} {R C U W : Nat} (d : ScatterDims ⟨2, ![R, C]⟩ ⟨1, ![2]⟩ ⟨2, ![U, W]⟩)

/-- On axis `q` the corner of the rectangle is the word at place `q`, read signed. -/
theorem corner (hsd : d.scatterDimsToOperandDims = [0, 1]) (hiv : d.indexVectorDim = 0) (idx : IVec ⟨1, ![2]⟩ 32)
    (k : (⟨2, ![U, W]⟩ : Shape).Idx) (q : Fin 2) : d.start k idx q = (idx (ix1 q)).toInt := by
  have hq : q ∈ d.scatterDimsToOperandDims := by rw [hsd]; fin_cases q <;> simp
  have hplace : d.siIdx k ⟨d.scatterDimsToOperandDims.idxOf q, List.idxOf_lt_length_iff.2 hq⟩ = ix1 q := by
    funext a
    refine Fin.ext ?_
    match a with
    | ⟨0, _⟩ =>
      unfold ScatterDims.siIdx
      rw [dif_pos (by rw [hiv])]
      show List.idxOf q d.scatterDimsToOperandDims = q.val
      rw [hsd]
      fin_cases q <;> rfl
  unfold ScatterDims.start
  rw [dif_pos hq, hplace]

/-- Inside the rectangle an update's place on axis `q` is its own coordinate there: no axis is left out. -/
theorem inside (huw : d.updateWindowDims = [0, 1]) (hiw : d.insertedWindowDims = []) (k : (⟨2, ![U, W]⟩ : Shape).Idx) (q : Fin 2) :
    d.window k q = (k q).val := by
  obtain ⟨uw, iw, sd, iv, wf⟩ := d
  simp only at huw hiw
  subst huw hiw
  unfold ScatterDims.window
  rw [dif_pos (by fin_cases q <;> simp [ScatterDims.sKept, Shape.kept])]
  fin_cases q <;> rfl

/-- The rectangle written at the corner `(r0, c0)`, read at `(r, c)`: the block's entry where `(r, c)` lies in the rectangle, and
    the operand's elsewhere. -/
theorem at_entry (huw : d.updateWindowDims = [0, 1]) (hiw : d.insertedWindowDims = []) (hsd : d.scatterDimsToOperandDims = [0, 1])
    (hiv : d.indexVectorDim = 0) (x : (⟨2, ![R, C]⟩ : Shape).Idx → α) (idx : IVec ⟨1, ![2]⟩ 32) (upd : (⟨2, ![U, W]⟩ : Shape).Idx → α)
    (r0 c0 : Nat) (h0 : (idx (ix1 0)).toInt = r0) (h1 : (idx (ix1 1)).toInt = c0) (r : Fin R) (c : Fin C) :
    Host.scatter d (fun _ b => b) x idx upd (ix2 r c)
      = if h : (r0 ≤ r.val ∧ r.val - r0 < U) ∧ c0 ≤ c.val ∧ c.val - c0 < W then
          upd (ix2 ⟨r.val - r0, h.1.2⟩ ⟨c.val - c0, h.2.2⟩) else x (ix2 r c) := by
  have lands : ∀ k : (⟨2, ![U, W]⟩ : Shape).Idx,
      d.resultIdx? k idx = some (ix2 r c) ↔ r0 + (k 0).val = r.val ∧ c0 + (k 1).val = c.val := fun k => by
    rw [Routing.resultIdx?_eq_some]
    constructor
    · intro h
      have a := h 0
      have b := h 1
      rw [corner d hsd hiv, inside d huw hiw, h0] at a
      rw [corner d hsd hiv, inside d huw hiw, h1] at b
      have a' : (r0 : Int) + ((k 0).val : Int) = (r.val : Int) := a
      have b' : (c0 : Int) + ((k 1).val : Int) = (c.val : Int) := b
      omega
    · rintro ⟨a, b⟩ q
      rw [corner d hsd hiv, inside d huw hiw]
      match q with
      | ⟨0, _⟩ =>
        show (idx (ix1 0)).toInt + ((k 0).val : Int) = (r.val : Int)
        rw [h0]; omega
      | ⟨1, _⟩ =>
        show (idx (ix1 1)).toInt + ((k 1).val : Int) = (c.val : Int)
        rw [h1]; omega
  by_cases h : (r0 ≤ r.val ∧ r.val - r0 < U) ∧ c0 ≤ c.val ∧ c.val - c0 < W
  · rw [dif_pos h]
    refine Routing.scatter_set_hit d x idx upd _ _ (fun k hk => ?_) (ix2 ⟨r.val - r0, h.1.2⟩ ⟨c.val - c0, h.2.2⟩) ((lands _).2 ?_)
    · obtain ⟨a, b⟩ := (lands k).1 hk
      refine congrArg upd ?_
      refine (eq_ix2 k).trans ((ix2_inj _ _ _ _).2 ⟨Fin.ext ?_, Fin.ext ?_⟩)
      · show (k 0).val = r.val - r0; omega
      · show (k 1).val = c.val - c0; omega
    · exact ⟨by show r0 + (r.val - r0) = r.val; omega, by show c0 + (c.val - c0) = c.val; omega⟩
  · rw [dif_neg h]
    refine Routing.scatter_set_miss d x idx upd _ fun k hk => h ?_
    obtain ⟨a, b⟩ := (lands k).1 hk
    have k0 : (k 0).val < U := (k 0).isLt
    have k1 : (k 1).val < W := (k 1).isLt
    omega

end Rectangle

/-! ## Single entries at pairs of words -/

section Entries
variable {α : Type} {R C N : Nat} (d : ScatterDims ⟨2, ![R, C]⟩ ⟨2, ![N, 2]⟩ ⟨1, ![N]⟩)

/-- Entry `k` of the list goes, on axis `q`, to the word at `(k, q)`, read signed. -/
theorem pair (huw : d.updateWindowDims = []) (hsd : d.scatterDimsToOperandDims = [0, 1]) (hiv : d.indexVectorDim = 1)
    (idx : IVec ⟨2, ![N, 2]⟩ 32) (k : Fin N) (q : Fin 2) : d.start (ix1 k) idx q = (idx (ix2 k q)).toInt := by
  obtain ⟨uw, iw, sd, iv, wf⟩ := d
  simp only at huw hsd hiv
  subst huw hsd hiv
  unfold ScatterDims.start
  rw [dif_pos (by fin_cases q <;> simp)]
  refine congrArg (fun i => (idx i).toInt) (funext fun a => Fin.ext ?_)
  match a with
  | ⟨0, _⟩ => rfl
  | ⟨1, _⟩ =>
    unfold ScatterDims.siIdx
    rw [dif_pos rfl]
    show List.idxOf q [0, 1] = q.val
    fin_cases q <;> rfl

/-- A single entry has no extent on either axis. -/
theorem single (hiw : d.insertedWindowDims = [0, 1]) (k : (⟨1, ![N]⟩ : Shape).Idx) (q : Fin 2) : d.window k q = 0 := by
  unfold ScatterDims.window
  rw [dif_neg fun h => (of_decide_eq_true (List.mem_filter.1 h).2) (by rw [hiw]; fin_cases q <;> simp)]

/-- One value `v` written at the places `(k, k)`, read at `(r, c)`: `v` on the first `N` places of the diagonal, the operand's
    entry elsewhere. -/
theorem diagonal (huw : d.updateWindowDims = []) (hiw : d.insertedWindowDims = [0, 1]) (hsd : d.scatterDimsToOperandDims = [0, 1])
    (hiv : d.indexVectorDim = 1) (x : (⟨2, ![R, C]⟩ : Shape).Idx → α) (idx : IVec ⟨2, ![N, 2]⟩ 32) (upd : (⟨1, ![N]⟩ : Shape).Idx → α)
    (v : α) (hv : ∀ k, upd k = v) (hidx : ∀ k q, (idx (ix2 k q)).toInt = (k.val : Int)) (r : Fin R) (c : Fin C) :
    Host.scatter d (fun _ b => b) x idx upd (ix2 r c) = if r.val < N ∧ c.val = r.val then v else x (ix2 r c) := by
  have lands : ∀ k : Fin N, d.resultIdx? (ix1 k) idx = some (ix2 r c) ↔ k.val = r.val ∧ k.val = c.val := fun k => by
    rw [Routing.resultIdx?_eq_some]
    constructor
    · intro h
      have a := h 0
      have b := h 1
      rw [pair d huw hsd hiv, single d hiw, hidx] at a b
      have a' : (k.val : Int) + (0 : Nat) = (r.val : Int) := a
      have b' : (k.val : Int) + (0 : Nat) = (c.val : Int) := b
      omega
    · rintro ⟨a, b⟩ q
      rw [pair d huw hsd hiv, single d hiw, hidx]
      match q with
      | ⟨0, _⟩ => show (k.val : Int) + (0 : Nat) = (r.val : Int); omega
      | ⟨1, _⟩ => show (k.val : Int) + (0 : Nat) = (c.val : Int); omega
  by_cases h : r.val < N ∧ c.val = r.val
  · rw [if_pos h]
    exact Routing.scatter_set_hit d x idx upd _ v (fun k _ => hv k) (ix1 ⟨r.val, h.1⟩) ((lands _).2 ⟨rfl, h.2.symm⟩)
  · rw [if_neg h]
    refine Routing.scatter_set_miss d x idx upd _ fun k hk => h ?_
    rw [eq_ix1 k] at hk
    obtain ⟨a, b⟩ := (lands _).1 hk
    have k0 : (k 0).val < N := (k 0).isLt
    omega

end Entries

end Cert.WriteWindow
-- ==== Proof.OneHot.lean ====
/-
  One-hot rows at the extended reals.

  The kernel looks a row of a table up by a product: it compares an index word with the row numbers, turns the answers into ones
  and zeros, and multiplies the row of them with the table. These lemmas read such a comparison as a number and such a product as
  the one entry that it picks.
-/
module

public import Idealize.ShloMosaic.Lib.Pointwise
public import Idealize.ShloMosaic.Lib.WordCmp

@[expose] public section

namespace Cert.OneHot

open Idealize.ShloMosaic

/-- A comparison for equality, widened to a word and converted signed: one where the words agree, else zero. -/
theorem of_signed (a b : BitVec 32) :
    (FloatOps.sitofp .f32 (BitVec.setWidth 32 (IntOp.cmpi .eq a b)) : Ideal .f32) = if a = b then (1 : EReal) else (0 : EReal) := by
  show ((((BitVec.setWidth 32 (BitVec.ofBool (a == b))).toInt : ℤ) : ℝ) : EReal) = _
  by_cases h : a = b
  · rw [if_pos h, beq_iff_eq.2 h]
    norm_num
    decide
  · rw [if_neg h, beq_eq_false_iff_ne.2 h]
    norm_num

/-- A comparison for equality, converted unsigned: one where the words agree, else zero. -/
theorem of_unsigned (a b : BitVec 32) :
    (FloatOps.uitofp .f32 (IntOp.cmpi .eq a b) : Ideal .f32) = if a = b then (1 : EReal) else (0 : EReal) := by
  show ((((BitVec.ofBool (a == b)).toNat : ℕ) : ℝ) : EReal) = _
  by_cases h : a = b
  · rw [if_pos h, beq_iff_eq.2 h]
    norm_num
    decide
  · rw [if_neg h, beq_eq_false_iff_ne.2 h]
    norm_num

/-- The words of two small numbers agree where the numbers do. -/
theorem word_eq {a b : Nat} (ha : a < 2 ^ 32) (hb : b < 2 ^ 32) : BitVec.ofNat 32 a = BitVec.ofNat 32 b ↔ a = b := by
  constructor
  · intro h
    have h' := congrArg BitVec.toNat h
    rwa [BitVec.toNat_ofNat, BitVec.toNat_ofNat, Nat.mod_eq_of_lt ha, Nat.mod_eq_of_lt hb] at h'
  · rintro rfl; rfl

/-- A one-hot row times a column is the column's entry at the hot place, whatever the other entries are. -/
theorem pick {n : Nat} (k : Fin n) (f : Fin n → EReal) : ∑ x : Fin n, (if k = x then (1 : EReal) else 0) * f x = f k := by
  rw [Finset.sum_eq_single k]
  · rw [if_pos rfl, one_mul]
  · intro x _ hx
    rw [if_neg hx.symm, zero_mul]
  · exact fun h => absurd (Finset.mem_univ k) h

/-- The same row spelt by words. -/
theorem pick_word {n : Nat} (hn : n ≤ 2 ^ 32) (k : Fin n) (f : Fin n → EReal) :
    ∑ x : Fin n, (if BitVec.ofNat 32 k.val = BitVec.ofNat 32 x.val then (1 : EReal) else 0) * f x = f k := by
  rw [← pick k f]
  refine Finset.sum_congr rfl fun x _ => ?_
  simp only [word_eq (lt_of_lt_of_le k.isLt hn) (lt_of_lt_of_le x.isLt hn), Fin.ext_iff]

end Cert.OneHot
-- ==== Proof.Spec.lean ====
/-
  The two results in plain form, entry by entry, and the two matrices that the kernel is given.

  A trip has a weekday, a start time and a one-hot of eight; a point has five numbers and a class, of which class 0 stands for none.
-/
module

public import Idealize.ShloMosaic.Lib.Pointwise

@[expose] public section

noncomputable section

namespace Cert.Spec

open Idealize.ShloMosaic

/-- A matrix of extended reals with `r` rows and `k` columns. -/
abbrev Mat (r k : Nat) : Type := FVec Ideal ⟨2, ![r, k]⟩ .f32

/-- Entry `j` of a trip's embedding: three numbers of the weekday, six of the start time, and three products of the one-hot `sem`
    with the rows of `t12`. -/
def trip (t9 : Mat 7 3) (t10 : Mat 48 6) (t12 : Mat 3 8) (w : Fin 7) (s : Fin 48) (sem : Fin 8 → EReal) (j : Fin 12) : EReal :=
  if h : j.val < 3 then t9 (ix2 w ⟨j.val, h⟩)
  else if h : j.val - 3 < 6 then t10 (ix2 s ⟨j.val - 3, h⟩)
  else ∑ q : Fin 8, sem q * t12 (ix2 ⟨j.val - 3 - 6, by omega⟩ q)

/-- Entry `j` of a point: its five numbers, its trip's embedding, and three numbers of its class, zero for class 0. -/
def point (t11 : Mat 9 3) (x0 x1 x2 x3 x4 : EReal) (e : Fin 12 → EReal) (p : Fin 9) (j : Fin 20) : EReal :=
  if j.val = 0 then x0 else if j.val = 1 then x1 else if j.val = 2 then x2 else if j.val = 3 then x3 else if j.val = 4 then x4
  else if h : j.val - 5 < 12 then e ⟨j.val - 5, h⟩
  else if p.val = 0 then 0 else t11 (ix2 p ⟨j.val - 5 - 12, by omega⟩)

/-- The matrix that sends weekday, start time and one-hot of a trip to columns 5 to 16. -/
def tripMat (t9 : Mat 7 3) (t10 : Mat 48 6) (t12 : Mat 3 8) (r : Fin 63) (k : Fin 20) : EReal :=
  if h : (55 ≤ r.val ∧ r.val - 55 < 8) ∧ 14 ≤ k.val ∧ k.val - 14 < 3 then t12 (ix2 ⟨k.val - 14, h.2.2⟩ ⟨r.val - 55, h.1.2⟩)
  else if h : (7 ≤ r.val ∧ r.val - 7 < 48) ∧ 8 ≤ k.val ∧ k.val - 8 < 6 then t10 (ix2 ⟨r.val - 7, h.1.2⟩ ⟨k.val - 8, h.2.2⟩)
  else if h : (0 ≤ r.val ∧ r.val - 0 < 7) ∧ 5 ≤ k.val ∧ k.val - 5 < 3 then t9 (ix2 ⟨r.val - 0, h.1.2⟩ ⟨k.val - 5, h.2.2⟩)
  else 0

/-- The matrix that sends the five numbers of a point to columns 0 to 4, and the one-hot of its classes 1 to 8 to columns 17 to 19. -/
def spreadMat (t11 : Mat 9 3) (r : Fin 13) (k : Fin 20) : EReal :=
  if h : (5 ≤ r.val ∧ r.val - 5 < 8) ∧ 17 ≤ k.val ∧ k.val - 17 < 3 then t11 (ix2 ⟨r.val - 5 + 1, by omega⟩ ⟨k.val - 17, h.2.2⟩)
  else if r.val < 5 ∧ k.val = r.val then 1 else 0

section TripMatrix
variable (t9 : Mat 7 3) (t10 : Mat 48 6) (t12 : Mat 3 8) (w : Fin 7) (s : Fin 48) (sem : Fin 8 → EReal)

/-- The three rows that a trip picks from the trip matrix, added up at column `k`. -/
def picked (k : Fin 20) : EReal :=
  tripMat t9 t10 t12 ⟨w.val, by omega⟩ k + (tripMat t9 t10 t12 ⟨7 + s.val, by omega⟩ k
    + ∑ q : Fin 8, sem q * tripMat t9 t10 t12 ⟨7 + (48 + q.val), by omega⟩ k)

/-- A weekday's row: the weekday's table in columns 5 to 7. -/
theorem weekday_row (k : Fin 20) :
    tripMat t9 t10 t12 ⟨w.val, by omega⟩ k = if h : 5 ≤ k.val ∧ k.val - 5 < 3 then t9 (ix2 w ⟨k.val - 5, h.2⟩) else 0 := by
  unfold tripMat
  rw [dif_neg (by simp only; omega), dif_neg (by simp only; omega)]
  by_cases h : 5 ≤ k.val ∧ k.val - 5 < 3
  · rw [dif_pos ⟨⟨by simp only; omega, by simp only; omega⟩, h⟩, dif_pos h]
    rfl
  · rw [dif_neg fun h' => h h'.2, dif_neg h]

/-- A start time's row: the start time's table in columns 8 to 13. -/
theorem start_row (k : Fin 20) :
    tripMat t9 t10 t12 ⟨7 + s.val, by omega⟩ k = if h : 8 ≤ k.val ∧ k.val - 8 < 6 then t10 (ix2 s ⟨k.val - 8, h.2⟩) else 0 := by
  unfold tripMat
  rw [dif_neg (by simp only; omega)]
  by_cases h : 8 ≤ k.val ∧ k.val - 8 < 6
  · rw [dif_pos ⟨⟨by simp only; omega, by simp only; omega⟩, h⟩, dif_pos h]
    exact congrArg t10 ((ix2_inj _ _ _ _).2 ⟨Fin.ext (by simp only; omega), rfl⟩)
  · rw [dif_neg fun h' => h h'.2, dif_neg (by simp only; omega), dif_neg h]

/-- One of the last eight rows: a column of `t12` in columns 14 to 16. -/
theorem onehot_row (q : Fin 8) (k : Fin 20) :
    tripMat t9 t10 t12 ⟨7 + (48 + q.val), by omega⟩ k = if h : 14 ≤ k.val ∧ k.val - 14 < 3 then t12 (ix2 ⟨k.val - 14, h.2⟩ q) else 0 := by
  unfold tripMat
  by_cases h : 14 ≤ k.val ∧ k.val - 14 < 3
  · rw [dif_pos ⟨⟨by simp only; omega, by simp only; omega⟩, h⟩, dif_pos h]
    exact congrArg t12 ((ix2_inj _ _ _ _).2 ⟨rfl, Fin.ext (by simp only; omega)⟩)
  · rw [dif_neg fun h' => h h'.2, dif_neg (by simp only; omega), dif_neg (by simp only; omega), dif_neg h]

/-- In columns 5 to 16 the picked rows add up to the trip's embedding. -/
theorem picked_eq (k : Fin 20) (j : Fin 12) (hk : k.val = j.val + 5) : picked t9 t10 t12 w s sem k = trip t9 t10 t12 w s sem j := by
  unfold picked trip
  simp only [weekday_row, start_row, onehot_row]
  by_cases h3 : j.val < 3
  · rw [dif_pos (show 5 ≤ k.val ∧ k.val - 5 < 3 by omega), dif_neg (show ¬ (8 ≤ k.val ∧ k.val - 8 < 6) by omega), dif_pos h3]
    simp only [dif_neg (show ¬ (14 ≤ k.val ∧ k.val - 14 < 3) by omega), mul_zero, Finset.sum_const_zero, add_zero]
    exact congrArg t9 ((ix2_inj _ _ _ _).2 ⟨rfl, Fin.ext (by simp only; omega)⟩)
  · by_cases h9 : j.val - 3 < 6
    · rw [dif_neg (show ¬ (5 ≤ k.val ∧ k.val - 5 < 3) by omega), dif_pos (show 8 ≤ k.val ∧ k.val - 8 < 6 by omega), dif_neg h3, dif_pos h9]
      simp only [dif_neg (show ¬ (14 ≤ k.val ∧ k.val - 14 < 3) by omega), mul_zero, Finset.sum_const_zero, add_zero, zero_add]
      exact congrArg t10 ((ix2_inj _ _ _ _).2 ⟨rfl, Fin.ext (by simp only; omega)⟩)
    · rw [dif_neg (show ¬ (5 ≤ k.val ∧ k.val - 5 < 3) by omega), dif_neg (show ¬ (8 ≤ k.val ∧ k.val - 8 < 6) by omega), dif_neg h3, dif_neg h9]
      simp only [dif_pos (show 14 ≤ k.val ∧ k.val - 14 < 3 by omega), zero_add]
      exact Finset.sum_congr rfl fun q _ => congrArg (fun x => sem q * t12 x) ((ix2_inj _ _ _ _).2 ⟨Fin.ext (by simp only; omega), rfl⟩)

/-- Outside these columns the picked rows are zero. -/
theorem picked_zero (k : Fin 20) (hk : k.val < 5 ∨ 17 ≤ k.val) : picked t9 t10 t12 w s sem k = 0 := by
  unfold picked
  simp only [weekday_row, start_row, onehot_row, dif_neg (show ¬ (5 ≤ k.val ∧ k.val - 5 < 3) by omega),
    dif_neg (show ¬ (8 ≤ k.val ∧ k.val - 8 < 6) by omega), dif_neg (show ¬ (14 ≤ k.val ∧ k.val - 14 < 3) by omega), mul_zero,
    Finset.sum_const_zero, add_zero]

end TripMatrix

section SpreadMatrix
variable (t11 : Mat 9 3) (x0 x1 x2 x3 x4 : EReal) (p : Fin 9)

/-- One where the class is `n`, else zero. -/
def hot (n : Nat) : EReal := if p.val = n then 1 else 0

/-- The thirteen features of a point times the spreading matrix, at column `k`. -/
def spread (k : Fin 20) : EReal :=
  x0 * spreadMat t11 0 k + (x1 * spreadMat t11 1 k + (x2 * spreadMat t11 2 k + (x3 * spreadMat t11 3 k + (x4 * spreadMat t11 4 k
    + (hot p 1 * spreadMat t11 5 k + (hot p 2 * spreadMat t11 6 k + (hot p 3 * spreadMat t11 7 k + (hot p 4 * spreadMat t11 8 k
    + (hot p 5 * spreadMat t11 9 k + (hot p 6 * spreadMat t11 10 k + (hot p 7 * spreadMat t11 11 k + hot p 8 * spreadMat t11 12 k)))))))))))

/-- Before column 17 the spreading matrix is the identity on its first five rows. -/
theorem spreadMat_left (r : Fin 13) (k : Fin 20) (hk : k.val < 17) :
    spreadMat t11 r k = if r.val < 5 ∧ k.val = r.val then 1 else 0 := by
  unfold spreadMat
  rw [dif_neg (by omega)]

/-- From column 17 on its first five rows are zero. -/
theorem spreadMat_top (r : Fin 13) (k : Fin 20) (hr : r.val < 5) (hk : 17 ≤ k.val) : spreadMat t11 r k = 0 := by
  unfold spreadMat
  rw [dif_neg (by omega), if_neg (by omega)]

/-- From column 17 on its last eight rows are the table's rows 1 to 8. -/
theorem spreadMat_table (r : Fin 13) (k : Fin 20) (hr : 5 ≤ r.val) (hk : 17 ≤ k.val) (p : Fin 9) (hp : p.val = r.val - 4) :
    spreadMat t11 r k = t11 (ix2 p ⟨k.val - 5 - 12, by omega⟩) := by
  unfold spreadMat
  rw [dif_pos (by omega)]
  exact congrArg t11 ((ix2_inj _ _ _ _).2 ⟨Fin.ext (by simp only; omega), Fin.ext (by simp only; omega)⟩)

/-- The features' product and the picked rows of the trip together are the point. -/
theorem point_eq (t9 : Mat 7 3) (t10 : Mat 48 6) (t12 : Mat 3 8) (w : Fin 7) (s : Fin 48) (sem : Fin 8 → EReal) (k : Fin 20) :
    spread t11 x0 x1 x2 x3 x4 p k + picked t9 t10 t12 w s sem k = point t11 x0 x1 x2 x3 x4 (trip t9 t10 t12 w s sem) p k := by
  by_cases h5 : k.val < 5
  · rw [picked_zero _ _ _ _ _ _ _ (Or.inl h5), add_zero]
    unfold spread point
    simp only [spreadMat_left t11 _ k (by omega)]
    obtain ⟨k, hk⟩ := k
    simp only at h5
    interval_cases k <;> simp
  · by_cases h17 : k.val < 17
    · rw [picked_eq t9 t10 t12 w s sem k ⟨k.val - 5, by omega⟩ (by simp only; omega)]
      unfold spread point
      simp only [spreadMat_left t11 _ k (by omega)]
      rw [if_neg (by omega), if_neg (by omega), if_neg (by omega), if_neg (by omega), if_neg (by omega), dif_pos (by omega)]
      obtain ⟨k, hk⟩ := k
      simp only at h5 h17
      interval_cases k <;> simp
    · rw [picked_zero _ _ _ _ _ _ _ (Or.inr (by omega)), add_zero]
      unfold spread point
      rw [if_neg (by omega), if_neg (by omega), if_neg (by omega), if_neg (by omega), if_neg (by omega), dif_neg (by omega)]
      rw [spreadMat_top t11 0 k (by decide) (by omega), spreadMat_top t11 1 k (by decide) (by omega),
        spreadMat_top t11 2 k (by decide) (by omega), spreadMat_top t11 3 k (by decide) (by omega),
        spreadMat_top t11 4 k (by decide) (by omega), spreadMat_table t11 5 k (by decide) (by omega) 1 rfl,
        spreadMat_table t11 6 k (by decide) (by omega) 2 rfl, spreadMat_table t11 7 k (by decide) (by omega) 3 rfl,
        spreadMat_table t11 8 k (by decide) (by omega) 4 rfl, spreadMat_table t11 9 k (by decide) (by omega) 5 rfl,
        spreadMat_table t11 10 k (by decide) (by omega) 6 rfl, spreadMat_table t11 11 k (by decide) (by omega) 7 rfl,
        spreadMat_table t11 12 k (by decide) (by omega) 8 rfl]
      unfold hot
      fin_cases p <;> simp

end SpreadMatrix

/-! ## The two results whole -/

/-- The index arrays hold the words of the weekdays `w`, the start times `s` and the classes `p`. -/
structure Indices (a0 a1 : IVec ⟨1, ![4096]⟩ 32) (a8 : IVec ⟨2, ![4096, 200]⟩ 32) (w : Fin 4096 → Fin 7) (s : Fin 4096 → Fin 48)
    (p : Fin 4096 → Fin 200 → Fin 9) : Prop where
  weekday : ∀ b, a0 (ix1 b) = BitVec.ofNat 32 (w b).val
  start : ∀ b, a1 (ix1 b) = BitVec.ofNat 32 (s b).val
  place : ∀ b l, a8 (ix2 b l) = BitVec.ofNat 32 (p b l).val

/-- The embeddings of all trips. -/
def trips (a2 : Mat 4096 8) (t9 : Mat 7 3) (t10 : Mat 48 6) (t12 : Mat 3 8) (w : Fin 4096 → Fin 7) (s : Fin 4096 → Fin 48) : Mat 4096 12 :=
  fun y => trip t9 t10 t12 (w (y 0)) (s (y 0)) (fun q => a2 (ix2 (y 0 : Fin 4096) q)) (y 1)

/-- All points of all trips. -/
def points (a2 : Mat 4096 8) (a3 a4 a5 a6 a7 : Mat 4096 200) (t9 : Mat 7 3) (t10 : Mat 48 6) (t11 : Mat 9 3) (t12 : Mat 3 8)
    (w : Fin 4096 → Fin 7) (s : Fin 4096 → Fin 48) (p : Fin 4096 → Fin 200 → Fin 9) : FVec Ideal ⟨3, ![4096, 200, 20]⟩ .f32 :=
  fun y => point t11 (a3 (ix2 (y 0 : Fin 4096) (y 1 : Fin 200))) (a4 (ix2 (y 0 : Fin 4096) (y 1 : Fin 200)))
    (a5 (ix2 (y 0 : Fin 4096) (y 1 : Fin 200))) (a6 (ix2 (y 0 : Fin 4096) (y 1 : Fin 200))) (a7 (ix2 (y 0 : Fin 4096) (y 1 : Fin 200)))
    (trip t9 t10 t12 (w (y 0)) (s (y 0)) fun q => a2 (ix2 (y 0 : Fin 4096) q)) (p (y 0) (y 1)) (y 2)

end Cert.Spec
-- ==== Proof.Tables.lean ====
/-
  The three matrices that the kernel is given, and the two columns of index words, read at an entry as the host leaves them.

  * The spreading matrix `S`, 13 by 20: it sends the five numbers of a point to columns 0 to 4, and class `k + 1` of the semantic
    point to the columns from 17 on of row `k + 1` of its table.
  * The trip matrix `S2`, 63 by 20: it sends the weekday, the start time and the one-hot of the trip to columns 5 to 16.
  * The repeating matrix, 512 by 64: row `r` has its one at column `r / 8`.
-/
module

public import proofs.«01_k».proof.Proof.Gen.KernelIdeal.Frame
public import proofs.«01_k».proof.Proof.WriteWindow
public import proofs.«01_k».proof.Proof.OneHot
public import proofs.«01_k».proof.Proof.Spec
public import Idealize.ShloMosaic.Lib.StableHlo.ReadAt
public import Idealize.ShloMosaic.Lib.Routing.OpsSearch

@[expose] public section

set_option maxRecDepth 16384

noncomputable section

namespace Cert.Tables

open Idealize.ShloMosaic Idealize.ShloMosaic.TcCoe
open Cert.KernelIdeal Cert.KernelIdeal.Gen

variable (m : (ℓ : Loc nD τ sig) → Buf (Elt Ideal) ℓ) (c : Dev nD)

/-- The weekdays as a column. -/
theorem weekday_at (b : Fin 4096) (z : Fin 1) :
    (V m c main_call0_v0 : IVec S4096x1 32) (ix2 b z) = (m ((c : Thread nD τ).loc main_arg0) : IVec S4096 32) (ix1 b) := by
  unfold V
  after_reads_at

/-- The start times as a column. -/
theorem start_at (b : Fin 4096) (z : Fin 1) :
    (V m c main_call0_v1 : IVec S4096x1 32) (ix2 b z) = (m ((c : Thread nD τ).loc main_arg1) : IVec S4096 32) (ix1 b) := by
  unfold V
  after_reads_at

/-- The spreading matrix at row `r`, column `k`. -/
theorem spread_at (r : Fin 13) (k : Fin 20) :
    (V m c main_call0_v24 : FVec Ideal S13x20 .f32) (ix2 r k)
      = Spec.spreadMat (m ((c : Thread nD τ).loc main_arg11)) r k := by
  unfold Spec.spreadMat
  unfold V
  after_reads_at
  rw [WriteWindow.at_entry scatter_S13x20_S2_S8x3_01_n_01_0 rfl rfl rfl rfl _ _ _ 5 17 ?_ ?_,
    WriteWindow.diagonal scatter_S13x20_S5x2_S5_n_01_01_1 rfl rfl rfl rfl _ _ _ (1 : EReal) ?_ ?_]
  · pointwise
    refine dite_congr rfl (fun h => ?_) (fun _ => rfl)
    exact congrArg _ ((ix2_inj _ _ _ _).2 ⟨Fin.ext (Nat.add_comm _ _), rfl⟩)
  · intro k
    pointwise
  · intro k q
    fin_cases q
    · pointwise
      after_reads_at
      exact (by decide +kernel : ∀ k : Fin 5, (Scalar.select (IntOp.cmpi .slt (BitVec.ofNat 32 k.val) 0#32)
        (IntOp.addi (BitVec.ofNat 32 k.val) 13#32) (BitVec.ofNat 32 k.val)).toInt = (k.val : Int)) k
    · pointwise
      after_reads_at
      exact (by decide +kernel : ∀ k : Fin 5, (Scalar.select (IntOp.cmpi .slt (BitVec.ofNat 32 k.val) 0#32)
        (IntOp.addi (BitVec.ofNat 32 k.val) 20#32) (BitVec.ofNat 32 k.val)).toInt = (k.val : Int)) k
  · pointwise
    after_reads_at
    rfl
  · pointwise
    after_reads_at
    rfl

/-- The trip matrix at row `r`, column `k`. -/
theorem trip_at (r : Fin 63) (k : Fin 20) :
    (V m c main_call0_v38 : FVec Ideal S63x20 .f32) (ix2 r k)
      = Spec.tripMat (m ((c : Thread nD τ).loc main_arg9)) (m ((c : Thread nD τ).loc main_arg10)) (m ((c : Thread nD τ).loc main_arg12)) r k := by
  unfold Spec.tripMat
  unfold V
  after_reads_at
  rw [WriteWindow.at_entry scatter_S63x20_S2_S8x3_01_n_01_0 rfl rfl rfl rfl _ _ _ 55 14 ?_ ?_,
    WriteWindow.at_entry scatter_S63x20_S2_S48x6_01_n_01_0 rfl rfl rfl rfl _ _ _ 7 8 ?_ ?_,
    WriteWindow.at_entry scatter_S63x20_S2_S7x3_01_n_01_0 rfl rfl rfl rfl _ _ _ 0 5 ?_ ?_]
  · pointwise
  all_goals
    pointwise
    after_reads_at
    rfl

/-- The repeating matrix at row `r`, column `k`. -/
theorem repeat_at (r : Fin 512) (k : Fin 64) :
    (V m c main_call0_v47 : FVec Ideal S512x64 .f32) (ix2 r k) = if r.val / 8 = k.val then (1 : EReal) else (0 : EReal) := by
  unfold V
  after_reads_at
  rw [OneHot.of_unsigned]
  have h := Routing.pyDiv0_ap (fun _ => BitVec.ofNat 32 r.val) (fun _ => BitVec.ofNat 32 8) (a := r.val) (b := 8) rfl rfl
    (by omega) (by omega) (by omega)
  have h' : ∀ w v : BitVec 32, w = BitVec.ofNat 32 (r.val / 8) →
      (if w = v then (1 : EReal) else 0) = if BitVec.ofNat 32 (r.val / 8) = v then (1 : EReal) else 0 := by
    rintro w v rfl; rfl
  refine (h' _ _ h).trans ?_
  simp only [OneHot.word_eq (a := r.val / 8) (b := k.val) (by omega) (by omega)]

end Cert.Tables
-- ==== Proof.Block.lean ====
/-
  What one step of the kernel computes from its blocks, read at an entry.

  The step works on 64 trips. `trip_row` is its product of the one-hot rows with the trip matrix; `point_row` is its product of the
  point features with the spreading matrix, to which every trip row is added at each of the 200 points. The matrices stand here for
  any contents: only the repeating matrix is asked to be the one that the host makes.
-/
module

public import proofs.«01_k».proof.Proof.Gen.KernelIdeal.Skeleton
public import proofs.«01_k».proof.Proof.OneHot
public import Idealize.ShloMosaic.Lib.Pipeline.Value

@[expose] public section

set_option maxRecDepth 16384

noncomputable section

namespace Cert.Block

open Idealize.ShloMosaic
open Cert.KernelIdeal Cert.KernelIdeal.Gen

/-! ## The trip row -/

/-- The trip row of trip `b`: the matrix row of its weekday, the one of its start time, and its trip one-hot times the last eight
    rows. -/
theorem trip_row (wd st : Vec Ideal S64x1 .i32) (sem : Vec Ideal S64x8 .f32) (mat : Vec Ideal S63x20 .f32) (b : Fin 64) (j : Fin 20)
    (w : Fin 7) (s : Fin 48) (hw : (wd : IVec S64x1 32) (ix2 b 0) = BitVec.ofNat 32 w.val)
    (hs : (st : IVec S64x1 32) (ix2 b 0) = BitVec.ofNat 32 s.val) :
    (k0_pay11 (F := Ideal) wd st sem mat (ix2 b j) : EReal)
      = (mat : FVec Ideal S63x20 .f32) (ix2 ⟨w.val, by omega⟩ j) + ((mat : FVec Ideal S63x20 .f32) (ix2 ⟨7 + s.val, by omega⟩ j)
        + ∑ q : Fin 8, (sem : FVec Ideal S64x8 .f32) (ix2 b q) * (mat : FVec Ideal S63x20 .f32) (ix2 ⟨7 + (48 + q.val), by omega⟩ j)) := by
  pointwise [k0_pay11]
  refine (Fin.sum_univ_add (a := 7) (b := 56) _).trans ?_
  refine congrArg₂ (fun x y : EReal => x + y) ?_ ((Fin.sum_univ_add (a := 48) (b := 8) _).trans (congrArg₂ (fun x y : EReal => x + y) ?_ ?_))
  · refine Eq.trans ?_ (OneHot.pick_word (by decide) w fun x => (mat : FVec Ideal S63x20 .f32) (ix2 ⟨x.val, by omega⟩ j))
    refine Finset.sum_congr rfl fun x _ => congrArg₂ (fun x y : EReal => x * y) ?_ rfl
    refine (dif_pos x.isLt).trans ((OneHot.of_signed _ _).trans ?_)
    rw [hw]
    rfl
  · refine Eq.trans ?_ (OneHot.pick_word (by decide) s fun x => (mat : FVec Ideal S63x20 .f32) (ix2 ⟨7 + x.val, by omega⟩ j))
    refine Finset.sum_congr rfl fun x _ => congrArg₂ (fun x y : EReal => x * y) ?_ rfl
    have e : 7 + x.val - 7 = x.val := by omega
    refine (dif_neg (show ¬ 7 + x.val < 7 by omega)).trans ((dif_pos (show 7 + x.val - 7 < 48 by omega)).trans
      ((OneHot.of_signed _ _).trans ?_))
    rw [hs]
    show (if BitVec.ofNat 32 s.val = BitVec.ofNat 32 (7 + x.val - 7) then (1 : EReal) else 0) = _
    rw [e]
  · refine Finset.sum_congr rfl fun x _ => congrArg₂ (fun x y : EReal => x * y) ?_ rfl
    refine (dif_neg (show ¬ 7 + (48 + x.val) < 7 by omega)).trans ((dif_neg (show ¬ 7 + (48 + x.val) - 7 < 48 by omega)).trans ?_)
    refine congrArg sem ((ix2_inj _ _ _ _).2 ⟨rfl, Fin.ext ?_⟩)
    show 7 + (48 + x.val) - 7 - 48 = x.val
    omega

/-! ## The point row -/

/-- A product over the points of a block, taken with the points in one column and laid back in rows. -/
theorem product_at (x : FVec Ideal S64x200x13 .f32) (y : FVec Ideal S13x20 .f32) (b : Fin 64) (l : Fin 200) (j : Fin 20) :
    shapeCast S64x200x20 (matmul dot_S12800x13_S13x20_S12800x20_1_0_0_1_n_n none
      (shapeCast S12800x13 x shapeCasts_S64x200x13_S12800x13) y (constant S12800x20 .f32 0x00000000#32))
      shapeCasts_S12800x20_S64x200x20 (ix3 b l j) = ∑ k : Fin 13, x (ix3 b l k) * y (ix2 k j) := by
  pointwise

/-- The repeating matrix times the trip rows: eight copies of each trip row. -/
theorem repeated_at (x : FVec Ideal S512x64 .f32) (y : FVec Ideal S64x20 .f32)
    (hx : ∀ (r : Fin 512) (k : Fin 64), x (ix2 r k) = if r.val / 8 = k.val then (1 : EReal) else (0 : EReal))
    (b : Fin 64) (l : Fin 8) (j : Fin 20) :
    shapeCast S64x8x20 (matmul dot_S512x64_S64x20_S512x20_1_0_0_1_n_n none x y (constant S512x20 .f32 0x00000000#32))
      shapeCasts_S512x20_S64x8x20 (ix3 b l j) = y (ix2 b j) := by
  pointwise
  refine Eq.trans ?_ (OneHot.pick b fun k => (y (ix2 k j) : EReal))
  refine Finset.sum_congr rfl fun k _ => ?_
  rw [hx]
  have e : (b.val * 8 + l.val) / 8 = b.val := by omega
  simp only [e, Fin.ext_iff]

/-- Twenty-five copies of eight rows, one after the other: each of the 200 rows is one of the eight. -/
theorem copies_at (x : FVec Ideal S64x8x20 .f32) (y : FVec Ideal S64x20 .f32)
    (hx : ∀ (b : Fin 64) (l : Fin 8) (j : Fin 20), x (ix3 b l j) = y (ix2 b j))
    (h : Shape.Concatenates ((List.replicate 25 (⟨S64x8x20, x⟩ : (s : Shape) × (s.Idx → Ideal .f32))).map (·.1)) S64x200x20 1)
    (b : Fin 64) (l : Fin 200) (j : Fin 20) :
    concatenate S64x200x20 1 (List.replicate 25 (⟨S64x8x20, x⟩ : (s : Shape) × (s.Idx → Ideal .f32))) h (ix3 b l j) = y (ix2 b j) := by
  refine (concatenate_replicate_apply (1 : Fin S64x200x20.rank) 25 x h rfl (ix3 b l j)
    (ix3 b (⟨l.val % 8, Nat.mod_lt _ (by decide)⟩ : Fin 8) j) rfl ?_).trans (hx _ _ _)
  intro q hq
  match q with
  | ⟨0, _⟩ => rfl
  | ⟨1, _⟩ => exact absurd rfl hq
  | ⟨2, _⟩ => rfl

/-- Thirteen rows stacked and turned, times a matrix: a sum of thirteen products. -/
theorem stacked_at (x0 x1 x2 x3 x4 x5 x6 x7 x8 x9 x10 x11 x12 : FVec Ideal S64x1x200 .f32) (y : FVec Ideal S13x20 .f32)
    (b : Fin 64) (l : Fin 200) (j : Fin 20) :
    ∑ k : Fin 13, (transpose S64x200x13 [0, 2, 1] (concatenate S64x13x200 1 [⟨S64x1x200, x0⟩, ⟨S64x1x200, x1⟩, ⟨S64x1x200, x2⟩,
      ⟨S64x1x200, x3⟩, ⟨S64x1x200, x4⟩, ⟨S64x1x200, x5⟩, ⟨S64x1x200, x6⟩, ⟨S64x1x200, x7⟩, ⟨S64x1x200, x8⟩, ⟨S64x1x200, x9⟩,
      ⟨S64x1x200, x10⟩, ⟨S64x1x200, x11⟩, ⟨S64x1x200, x12⟩]
      concatenates_S64x1x200_S64x1x200_S64x1x200_S64x1x200_S64x1x200_S64x1x200_S64x1x200_S64x1x200_S64x1x200_S64x1x200_S64x1x200_S64x1x200_S64x1x200_S64x13x200_d1)
      transposes_S64x13x200_p0_2_1_S64x200x13 (ix3 b l k) : EReal) * y (ix2 k j)
      = x0 (ix3 b 0 l) * y (ix2 0 j) + (x1 (ix3 b 0 l) * y (ix2 1 j) + (x2 (ix3 b 0 l) * y (ix2 2 j)
        + (x3 (ix3 b 0 l) * y (ix2 3 j) + (x4 (ix3 b 0 l) * y (ix2 4 j) + (x5 (ix3 b 0 l) * y (ix2 5 j)
        + (x6 (ix3 b 0 l) * y (ix2 6 j) + (x7 (ix3 b 0 l) * y (ix2 7 j) + (x8 (ix3 b 0 l) * y (ix2 8 j)
        + (x9 (ix3 b 0 l) * y (ix2 9 j) + (x10 (ix3 b 0 l) * y (ix2 10 j) + (x11 (ix3 b 0 l) * y (ix2 11 j)
        + x12 (ix3 b 0 l) * y (ix2 12 j)))))))))))) := by
  simp only [Fin.sum_univ_succ, Fin.sum_univ_zero]
  pointwise
  rfl

/-- The output of one step at point `l` of trip `b`: thirteen products with the spreading matrix, and the trip row. -/
theorem point_row (v2 v3 v4 v5 : Vec Ideal S64x200 .f32) (v9 v13 v17 v21 v25 v29 v33 v37 : FVec Ideal S64x200 .f32)
    (v38 : FVec Ideal S64x1x200 .f32) (mat : Vec Ideal S13x20 .f32) (wd st : Vec Ideal S64x1 .i32) (sem : Vec Ideal S64x8 .f32)
    (mat2 : Vec Ideal S63x20 .f32) (rep : Vec Ideal S512x64 .f32)
    (hrep : ∀ (r : Fin 512) (k : Fin 64), (rep : FVec Ideal S512x64 .f32) (ix2 r k) = if r.val / 8 = k.val then (1 : EReal) else (0 : EReal))
    (b : Fin 64) (l : Fin 200) (j : Fin 20) :
    (k0_pay12 (F := Ideal) v2 v3 v4 v5 v9 v13 v17 v21 v25 v29 v33 v37 v38 mat wd st sem mat2 rep (ix3 b l j) : EReal)
      = (v38 (ix3 b 0 l) * mat (ix2 0 j) + (v2 (ix2 b l) * mat (ix2 1 j) + (v3 (ix2 b l) * mat (ix2 2 j)
        + (v4 (ix2 b l) * mat (ix2 3 j) + (v5 (ix2 b l) * mat (ix2 4 j) + (v9 (ix2 b l) * mat (ix2 5 j)
        + (v13 (ix2 b l) * mat (ix2 6 j) + (v17 (ix2 b l) * mat (ix2 7 j) + (v21 (ix2 b l) * mat (ix2 8 j)
        + (v25 (ix2 b l) * mat (ix2 9 j) + (v29 (ix2 b l) * mat (ix2 10 j) + (v33 (ix2 b l) * mat (ix2 11 j)
        + v37 (ix2 b l) * mat (ix2 12 j)))))))))))) : EReal) + k0_pay11 (F := Ideal) wd st sem mat2 (ix2 b j) := by
  unfold k0_pay12
  refine congrArg₂ (fun x y : EReal => x + y) ?_ ?_
  · refine (product_at _ _ b l j).trans ((stacked_at _ _ _ _ _ _ _ _ _ _ _ _ _ _ b l j).trans ?_)
    pointwise
  · exact copies_at _ _ (repeated_at _ _ (by pointwise; exact hrep)) _ b l j

end Cert.Block
-- ==== Proof.KernelArrays.lean ====
/-
  The kernel's two result arrays: what its 64 steps leave is the plain form.

  Step `t` reads rows `64 t` to `64 t + 63` of the trips and the three matrices whole. Its outputs are the plain form on these rows
  (`out12_at`, `out13_at`), and the steps' rows cover the arrays.
-/
module

public import proofs.«01_k».proof.Proof.Gen.KernelIdeal.Value
public import proofs.«01_k».proof.Proof.Tables
public import proofs.«01_k».proof.Proof.Block
public import proofs.«01_k».proof.Proof.Spec
public import Idealize.ShloMosaic.Lib.Pipeline.ValueKit

@[expose] public section

set_option maxRecDepth 16384

noncomputable section

namespace Cert.KernelArrays

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD) (t : Fin cfg0.N)

/-! ## Where a step's blocks lie -/

/-- There are 64 steps. -/
theorem steps (t : Fin cfg0.N) : t.val < 64 := lt_of_lt_of_eq t.isLt N_0

/-- Row `b` of step `t` among all trips. -/
def row (b : Fin 64) : Fin 4096 := ⟨64 * t.val + b.val, by have := steps t; omega⟩

/-- Step `t` takes the `t`-th block of the longitudes. -/
theorem place0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Step `t` takes the `t`-th block of the latitudes. -/
theorem place1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Step `t` takes the `t`-th block of the travel distances. -/
theorem place2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Step `t` takes the `t`-th block of the speeds. -/
theorem place3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- Step `t` takes the `t`-th block of the azimuths. -/
theorem place4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- Step `t` takes the `t`-th block of the classes. -/
theorem place5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- Step `t` takes the `t`-th block of the weekdays. -/
theorem place6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

/-- Step `t` takes the `t`-th block of the start times. -/
theorem place7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-- Step `t` takes the `t`-th block of the one-hots of eight. -/
theorem place8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)

/-- Every step takes the spreading matrix whole. -/
theorem place9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

/-- Every step takes the trip matrix whole. -/
theorem place10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

/-- Every step takes the repeating matrix whole. -/
theorem place11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

/-- Step `t` writes the `t`-th block of the points. -/
theorem place12 : ∀ t : Fin cfg0.N, win0_12.index t (0 : Fin 3) = t.val ∧ win0_12.index t (1 : Fin 3) = 0 ∧ win0_12.index t (2 : Fin 3) = 0 :=
  (by decide +kernel : ∀ t : Fin grid0.N, win0_12.index t (0 : Fin 3) = t.val ∧ win0_12.index t (1 : Fin 3) = 0 ∧ win0_12.index t (2 : Fin 3) = 0)

/-- Step `t` writes the `t`-th block of the trips. -/
theorem place13 : ∀ t : Fin cfg0.N, win0_13.index t (0 : Fin 2) = t.val ∧ win0_13.index t (1 : Fin 2) = 0 :=
  (by decide +kernel : ∀ t : Fin grid0.N, win0_13.index t (0 : Fin 2) = t.val ∧ win0_13.index t (1 : Fin 2) = 0)

/-! ## The blocks a step reads -/

/-- A step's longitudes are those of its 64 rows. -/
theorem block0 (b : Fin 64) (l : Fin 200) :
    (iblk m c 0 t : FVec Ideal S64x200 .f32) (ix2 b l) = (m ((c : Thread nD τ).loc main_arg3) : FVec Ideal S4096x200 .f32) (ix2 (row t b) l) := by
  obtain ⟨e0, e1⟩ := place0 t
  show V m c main_arg3 (((cfg0.win 0).blk t).view.emb (ix2 b l : S64x200.Idx)) = _
  rw [V_main_arg3]
  refine congrArg _ (funext fun a => Fin.ext ?_)
  match a with
  | ⟨0, _⟩ => show win0_0.index t (0 : Fin 2) * 64 + 1 * b.val = 64 * t.val + b.val; omega
  | ⟨1, _⟩ => show win0_0.index t (1 : Fin 2) * 200 + 1 * l.val = l.val; omega

/-- A step's latitudes are those of its 64 rows. -/
theorem block1 (b : Fin 64) (l : Fin 200) :
    (iblk m c 1 t : FVec Ideal S64x200 .f32) (ix2 b l) = (m ((c : Thread nD τ).loc main_arg4) : FVec Ideal S4096x200 .f32) (ix2 (row t b) l) := by
  obtain ⟨e0, e1⟩ := place1 t
  show V m c main_arg4 (((cfg0.win 1).blk t).view.emb (ix2 b l : S64x200.Idx)) = _
  rw [V_main_arg4]
  refine congrArg _ (funext fun a => Fin.ext ?_)
  match a with
  | ⟨0, _⟩ => show win0_1.index t (0 : Fin 2) * 64 + 1 * b.val = 64 * t.val + b.val; omega
  | ⟨1, _⟩ => show win0_1.index t (1 : Fin 2) * 200 + 1 * l.val = l.val; omega

/-- A step's travel distances are those of its 64 rows. -/
theorem block2 (b : Fin 64) (l : Fin 200) :
    (iblk m c 2 t : FVec Ideal S64x200 .f32) (ix2 b l) = (m ((c : Thread nD τ).loc main_arg5) : FVec Ideal S4096x200 .f32) (ix2 (row t b) l) := by
  obtain ⟨e0, e1⟩ := place2 t
  show V m c main_arg5 (((cfg0.win 2).blk t).view.emb (ix2 b l : S64x200.Idx)) = _
  rw [V_main_arg5]
  refine congrArg _ (funext fun a => Fin.ext ?_)
  match a with
  | ⟨0, _⟩ => show win0_2.index t (0 : Fin 2) * 64 + 1 * b.val = 64 * t.val + b.val; omega
  | ⟨1, _⟩ => show win0_2.index t (1 : Fin 2) * 200 + 1 * l.val = l.val; omega

/-- A step's speeds are those of its 64 rows. -/
theorem block3 (b : Fin 64) (l : Fin 200) :
    (iblk m c 3 t : FVec Ideal S64x200 .f32) (ix2 b l) = (m ((c : Thread nD τ).loc main_arg6) : FVec Ideal S4096x200 .f32) (ix2 (row t b) l) := by
  obtain ⟨e0, e1⟩ := place3 t
  show V m c main_arg6 (((cfg0.win 3).blk t).view.emb (ix2 b l : S64x200.Idx)) = _
  rw [V_main_arg6]
  refine congrArg _ (funext fun a => Fin.ext ?_)
  match a with
  | ⟨0, _⟩ => show win0_3.index t (0 : Fin 2) * 64 + 1 * b.val = 64 * t.val + b.val; omega
  | ⟨1, _⟩ => show win0_3.index t (1 : Fin 2) * 200 + 1 * l.val = l.val; omega

/-- A step's azimuths are those of its 64 rows. -/
theorem block4 (b : Fin 64) (l : Fin 200) :
    (iblk m c 4 t : FVec Ideal S64x200 .f32) (ix2 b l) = (m ((c : Thread nD τ).loc main_arg7) : FVec Ideal S4096x200 .f32) (ix2 (row t b) l) := by
  obtain ⟨e0, e1⟩ := place4 t
  show V m c main_arg7 (((cfg0.win 4).blk t).view.emb (ix2 b l : S64x200.Idx)) = _
  rw [V_main_arg7]
  refine congrArg _ (funext fun a => Fin.ext ?_)
  match a with
  | ⟨0, _⟩ => show win0_4.index t (0 : Fin 2) * 64 + 1 * b.val = 64 * t.val + b.val; omega
  | ⟨1, _⟩ => show win0_4.index t (1 : Fin 2) * 200 + 1 * l.val = l.val; omega

/-- A step's classes are those of its 64 rows. -/
theorem block5 (b : Fin 64) (l : Fin 200) :
    (iblk m c 5 t : IVec S64x200 32) (ix2 b l) = (m ((c : Thread nD τ).loc main_arg8) : IVec S4096x200 32) (ix2 (row t b) l) := by
  obtain ⟨e0, e1⟩ := place5 t
  show V m c main_arg8 (((cfg0.win 5).blk t).view.emb (ix2 b l : S64x200.Idx)) = _
  rw [V_main_arg8]
  refine congrArg _ (funext fun a => Fin.ext ?_)
  match a with
  | ⟨0, _⟩ => show win0_5.index t (0 : Fin 2) * 64 + 1 * b.val = 64 * t.val + b.val; omega
  | ⟨1, _⟩ => show win0_5.index t (1 : Fin 2) * 200 + 1 * l.val = l.val; omega

/-- A step's weekdays are those of its 64 rows. -/
theorem block6 (b : Fin 64) (l : Fin 1) :
    (iblk m c 6 t : IVec S64x1 32) (ix2 b l) = (V m c main_call0_v0 : IVec S4096x1 32) (ix2 (row t b) l) := by
  obtain ⟨e0, e1⟩ := place6 t
  show V m c main_call0_v0 (((cfg0.win 6).blk t).view.emb (ix2 b l : S64x1.Idx)) = _
  refine congrArg _ (funext fun a => Fin.ext ?_)
  match a with
  | ⟨0, _⟩ => show win0_6.index t (0 : Fin 2) * 64 + 1 * b.val = 64 * t.val + b.val; omega
  | ⟨1, _⟩ => show win0_6.index t (1 : Fin 2) * 1 + 1 * l.val = l.val; omega

/-- A step's start times are those of its 64 rows. -/
theorem block7 (b : Fin 64) (l : Fin 1) :
    (iblk m c 7 t : IVec S64x1 32) (ix2 b l) = (V m c main_call0_v1 : IVec S4096x1 32) (ix2 (row t b) l) := by
  obtain ⟨e0, e1⟩ := place7 t
  show V m c main_call0_v1 (((cfg0.win 7).blk t).view.emb (ix2 b l : S64x1.Idx)) = _
  refine congrArg _ (funext fun a => Fin.ext ?_)
  match a with
  | ⟨0, _⟩ => show win0_7.index t (0 : Fin 2) * 64 + 1 * b.val = 64 * t.val + b.val; omega
  | ⟨1, _⟩ => show win0_7.index t (1 : Fin 2) * 1 + 1 * l.val = l.val; omega

/-- A step's one-hots of eight are those of its 64 rows. -/
theorem block8 (b : Fin 64) (l : Fin 8) :
    (iblk m c 8 t : FVec Ideal S64x8 .f32) (ix2 b l) = (m ((c : Thread nD τ).loc main_arg2) : FVec Ideal S4096x8 .f32) (ix2 (row t b) l) := by
  obtain ⟨e0, e1⟩ := place8 t
  show V m c main_arg2 (((cfg0.win 8).blk t).view.emb (ix2 b l : S64x8.Idx)) = _
  rw [V_main_arg2]
  refine congrArg _ (funext fun a => Fin.ext ?_)
  match a with
  | ⟨0, _⟩ => show win0_8.index t (0 : Fin 2) * 64 + 1 * b.val = 64 * t.val + b.val; omega
  | ⟨1, _⟩ => show win0_8.index t (1 : Fin 2) * 8 + 1 * l.val = l.val; omega

/-- A step's spreading matrix entry by entry. -/
theorem block9 (b : Fin 13) (l : Fin 20) :
    (iblk m c 9 t : FVec Ideal S13x20 .f32) (ix2 b l) = (V m c main_call0_v24 : FVec Ideal S13x20 .f32) (ix2 b l) := by
  obtain ⟨e0, e1⟩ := place9 t
  show V m c main_call0_v24 (((cfg0.win 9).blk t).view.emb (ix2 b l : S13x20.Idx)) = _
  refine congrArg _ (funext fun a => Fin.ext ?_)
  match a with
  | ⟨0, _⟩ => show win0_9.index t (0 : Fin 2) * 13 + 1 * b.val = b.val; omega
  | ⟨1, _⟩ => show win0_9.index t (1 : Fin 2) * 20 + 1 * l.val = l.val; omega

/-- A step's trip matrix entry by entry. -/
theorem block10 (b : Fin 63) (l : Fin 20) :
    (iblk m c 10 t : FVec Ideal S63x20 .f32) (ix2 b l) = (V m c main_call0_v38 : FVec Ideal S63x20 .f32) (ix2 b l) := by
  obtain ⟨e0, e1⟩ := place10 t
  show V m c main_call0_v38 (((cfg0.win 10).blk t).view.emb (ix2 b l : S63x20.Idx)) = _
  refine congrArg _ (funext fun a => Fin.ext ?_)
  match a with
  | ⟨0, _⟩ => show win0_10.index t (0 : Fin 2) * 63 + 1 * b.val = b.val; omega
  | ⟨1, _⟩ => show win0_10.index t (1 : Fin 2) * 20 + 1 * l.val = l.val; omega

/-- A step's repeating matrix entry by entry. -/
theorem block11 (b : Fin 512) (l : Fin 64) :
    (iblk m c 11 t : FVec Ideal S512x64 .f32) (ix2 b l) = (V m c main_call0_v47 : FVec Ideal S512x64 .f32) (ix2 b l) := by
  obtain ⟨e0, e1⟩ := place11 t
  show V m c main_call0_v47 (((cfg0.win 11).blk t).view.emb (ix2 b l : S512x64.Idx)) = _
  refine congrArg _ (funext fun a => Fin.ext ?_)
  match a with
  | ⟨0, _⟩ => show win0_11.index t (0 : Fin 2) * 512 + 1 * b.val = b.val; omega
  | ⟨1, _⟩ => show win0_11.index t (1 : Fin 2) * 64 + 1 * l.val = l.val; omega

/-! ## What a step leaves -/

/-- Equal numbers added to equal numbers. -/
theorem plus {x x' y y' : EReal} (h : x = x') (h' : y = y') : x + y = x' + y' := congrArg₂ _ h h'

/-- Equal numbers times equal numbers. -/
theorem times {x x' y y' : EReal} (h : x = x') (h' : y = y') : x * y = x' * y' := congrArg₂ _ h h'

/-- A block of points laid out with one row more is read at the same place. -/
theorem column_at (x : Vec Ideal S64x200 .f32) (b : Fin 64) (l : Fin 200) :
    (k0_pay10 (F := Ideal) x (ix3 b 0 l) : EReal) = (x : FVec Ideal S64x200 .f32) (ix2 b l) := by
  pointwise [k0_pay10]

section Step
variable {w : Fin 4096 → Fin 7} {s : Fin 4096 → Fin 48} {p : Fin 4096 → Fin 200 → Fin 9}
  (H : Spec.Indices (m ((c : Thread nD τ).loc main_arg0)) (m ((c : Thread nD τ).loc main_arg1)) (m ((c : Thread nD τ).loc main_arg8)) w s p)
include H

/-- The trip row of a step: the rows picked from the trip matrix. -/
theorem trip_at (b : Fin 64) (j : Fin 20) :
    (k0_pay11 (F := Ideal) (iblk m c 6 t) (iblk m c 7 t) (iblk m c 8 t) (iblk m c 10 t) (ix2 b j) : EReal)
      = Spec.picked (m ((c : Thread nD τ).loc main_arg9)) (m ((c : Thread nD τ).loc main_arg10)) (m ((c : Thread nD τ).loc main_arg12))
          (w (row t b)) (s (row t b)) (fun q => (m ((c : Thread nD τ).loc main_arg2) : FVec Ideal S4096x8 .f32) (ix2 (row t b) q)) j := by
  refine (Block.trip_row _ _ _ _ b j (w (row t b)) (s (row t b)) ?_ ?_).trans ?_
  · rw [block6, Tables.weekday_at, H.weekday]
  · rw [block7, Tables.start_at, H.start]
  · unfold Spec.picked
    exact congrArg₂ (fun x y : EReal => x + y) ((block10 m c t _ j).trans (Tables.trip_at m c _ j))
      (congrArg₂ (fun x y : EReal => x + y) ((block10 m c t _ j).trans (Tables.trip_at m c _ j))
        (Finset.sum_congr rfl fun q _ => congrArg₂ (fun x y : EReal => x * y) (block8 m c t b q)
          ((block10 m c t _ j).trans (Tables.trip_at m c _ j))))

/-- The kernel's one-hot of class `n` is one where the class is `n`. -/
theorem hot_at (n : Nat) (hn : n < 2 ^ 32) (b : Fin 64) (l : Fin 200) :
    (FloatOps.sitofp .f32 (BitVec.setWidth 32 (IntOp.cmpi .eq ((iblk m c 5 t : IVec S64x200 32) (ix2 b l)) (BitVec.ofNat 32 n))) : Ideal .f32)
      = Spec.hot (p (row t b) l) n := by
  rw [OneHot.of_signed, block5, H.place]
  unfold Spec.hot
  simp only [OneHot.word_eq (lt_trans (p (row t b) l).isLt (by decide)) hn]

/-- Result 1 of a step at point `l` of its trip `b`. -/
theorem out12_at (b : Fin 64) (l : Fin 200) (j : Fin 20) :
    out0_12 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix3 b l j)
      = Spec.points (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg9)) (m ((c : Thread nD τ).loc main_arg10)) (m ((c : Thread nD τ).loc main_arg11))
          (m ((c : Thread nD τ).loc main_arg12)) w s p (ix3 (row t b) l j) := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_12
  rw [View.canon_unit_zero hz3]
  repeat rw [View.ld_unit_zero hz2]
  refine (Block.point_row _ _ _ _ _ _ _ _ _ _ _ _ _ _ _ _ _ _ _ ?_ b l j).trans ?_
  · intro r k
    rw [block11, Tables.repeat_at]
  · rw [trip_at m c t H]
    refine Eq.trans ?_ (Spec.point_eq (m ((c : Thread nD τ).loc main_arg11))
      ((m ((c : Thread nD τ).loc main_arg3) : FVec Ideal S4096x200 .f32) (ix2 (row t b) l))
      ((m ((c : Thread nD τ).loc main_arg4) : FVec Ideal S4096x200 .f32) (ix2 (row t b) l))
      ((m ((c : Thread nD τ).loc main_arg5) : FVec Ideal S4096x200 .f32) (ix2 (row t b) l))
      ((m ((c : Thread nD τ).loc main_arg6) : FVec Ideal S4096x200 .f32) (ix2 (row t b) l))
      ((m ((c : Thread nD τ).loc main_arg7) : FVec Ideal S4096x200 .f32) (ix2 (row t b) l))
      (p (row t b) l) (m ((c : Thread nD τ).loc main_arg9)) (m ((c : Thread nD τ).loc main_arg10)) (m ((c : Thread nD τ).loc main_arg12)) (w (row t b)) (s (row t b))
      (fun q => (m ((c : Thread nD τ).loc main_arg2) : FVec Ideal S4096x8 .f32) (ix2 (row t b) q)) j)
    refine congrArg (fun x : EReal => x + _) ?_
    unfold Spec.spread
    refine plus (times ((column_at _ b l).trans (block0 m c t b l)) ((block9 m c t 0 j).trans (Tables.spread_at m c 0 j))) ?_
    refine plus (times (block1 m c t b l) ((block9 m c t 1 j).trans (Tables.spread_at m c 1 j))) ?_
    refine plus (times (block2 m c t b l) ((block9 m c t 2 j).trans (Tables.spread_at m c 2 j))) ?_
    refine plus (times (block3 m c t b l) ((block9 m c t 3 j).trans (Tables.spread_at m c 3 j))) ?_
    refine plus (times (block4 m c t b l) ((block9 m c t 4 j).trans (Tables.spread_at m c 4 j))) ?_
    refine plus (times (hot_at m c t H 1 (by decide) b l) ((block9 m c t 5 j).trans (Tables.spread_at m c 5 j))) ?_
    refine plus (times (hot_at m c t H 2 (by decide) b l) ((block9 m c t 6 j).trans (Tables.spread_at m c 6 j))) ?_
    refine plus (times (hot_at m c t H 3 (by decide) b l) ((block9 m c t 7 j).trans (Tables.spread_at m c 7 j))) ?_
    refine plus (times (hot_at m c t H 4 (by decide) b l) ((block9 m c t 8 j).trans (Tables.spread_at m c 8 j))) ?_
    refine plus (times (hot_at m c t H 5 (by decide) b l) ((block9 m c t 9 j).trans (Tables.spread_at m c 9 j))) ?_
    refine plus (times (hot_at m c t H 6 (by decide) b l) ((block9 m c t 10 j).trans (Tables.spread_at m c 10 j))) ?_
    refine plus (times (hot_at m c t H 7 (by decide) b l) ((block9 m c t 11 j).trans (Tables.spread_at m c 11 j))) ?_
    exact times (hot_at m c t H 8 (by decide) b l) ((block9 m c t 12 j).trans (Tables.spread_at m c 12 j))

/-- Result 2 of a step at its trip `b`. -/
theorem out13_at (b : Fin 64) (j : Fin 12) :
    out0_13 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix2 b j)
      = Spec.trips (m ((c : Thread nD τ).loc main_arg2)) (m ((c : Thread nD τ).loc main_arg9)) (m ((c : Thread nD τ).loc main_arg10))
          (m ((c : Thread nD τ).loc main_arg12)) w s (ix2 (row t b) j) := by
  have hz2 : (![0, 0] : Fin 2 → Nat) = fun _ => 0 := funext fun a => by fin_cases a <;> rfl
  unfold out0_13
  rw [View.canon_unit_zero hz2]
  repeat rw [View.ld_unit_zero hz2]
  pointwise [k0_pay1]
  refine (trip_at m c t H b ⟨5 + j.val, by omega⟩).trans ?_
  exact Spec.picked_eq _ _ _ _ _ _ _ j (Nat.add_comm _ _)

end Step

/-! ## The arrays after all steps -/

section Arrays
variable {w : Fin 4096 → Fin 7} {s : Fin 4096 → Fin 48} {p : Fin 4096 → Fin 200 → Fin 9}
  (H : Spec.Indices (m ((c : Thread nD τ).loc main_arg0)) (m ((c : Thread nD τ).loc main_arg1)) (m ((c : Thread nD τ).loc main_arg8)) w s p)
include H

/-- Result 1 after all steps. -/
theorem final12 : (dats m 0 c).arrAt 12 cfg0.N
    = Spec.points (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg9)) (m ((c : Thread nD τ).loc main_arg10)) (m ((c : Thread nD τ).loc main_arg11))
        (m ((c : Thread nD τ).loc main_arg12)) w s p := by
  refine (dats m 0 c).arrAt_eq_of_covers 12 _ (by decide +kernel) fun t _ y => ?_
  blk_simp
  rw [after0_12]
  obtain ⟨b, l, j, rfl⟩ : ∃ (b : Fin 64) (l : Fin 200) (j : Fin 20), y = ix3 b l j := ⟨y 0, y 1, y 2, eq_ix3 y⟩
  refine (out12_at m c t H b l j).trans (congrArg _ (funext fun a => Fin.ext ?_))
  obtain ⟨e0, e1, e2⟩ := place12 t
  match a with
  | ⟨0, _⟩ => show 64 * t.val + b.val = win0_12.index t (0 : Fin 3) * 64 + 1 * b.val; omega
  | ⟨1, _⟩ => show l.val = win0_12.index t (1 : Fin 3) * 200 + 1 * l.val; omega
  | ⟨2, _⟩ => show j.val = win0_12.index t (2 : Fin 3) * 20 + 1 * j.val; omega

/-- Result 2 after all steps. -/
theorem final13 : (dats m 0 c).arrAt 13 cfg0.N
    = Spec.trips (m ((c : Thread nD τ).loc main_arg2)) (m ((c : Thread nD τ).loc main_arg9)) (m ((c : Thread nD τ).loc main_arg10))
        (m ((c : Thread nD τ).loc main_arg12)) w s := by
  refine (dats m 0 c).arrAt_eq_of_covers 13 _ (by decide +kernel) fun t _ y => ?_
  blk_simp
  rw [after0_13]
  obtain ⟨b, j, rfl⟩ : ∃ (b : Fin 64) (j : Fin 12), y = ix2 b j := ⟨y 0, y 1, eq_ix2 y⟩
  refine (out13_at m c t H b j).trans (congrArg _ (funext fun a => Fin.ext ?_))
  obtain ⟨e0, e1⟩ := place13 t
  match a with
  | ⟨0, _⟩ => show 64 * t.val + b.val = win0_13.index t (0 : Fin 2) * 64 + 1 * b.val; omega
  | ⟨1, _⟩ => show j.val = win0_13.index t (1 : Fin 2) * 12 + 1 * j.val; omega

end Arrays

end Cert.KernelArrays
-- ==== Proof.Take.lean ====
/-
  The reference's table look-ups, read at an entry where the index words are in range.

  A look-up (`jnp.take`) first counts a negative index from the end, then gathers rows, and last replaces the rows of indices out of
  range by a fill value. Where the index word is the word of a row number, the entry is the table's entry in this row.
-/
module

public import proofs.«01_k».proof.Proof.Gen.ReferenceIdeal
public import Idealize.ShloMosaic.Lib.Pointwise
public import Idealize.ShloMosaic.Lib.Routing.Ops
public import Idealize.ShloMosaic.Lib.Routing.OpsSet
public import Idealize.ShloMosaic.Lib.Routing.OpsPair

@[expose] public section

set_option maxRecDepth 16384

noncomputable section

namespace Cert.Take

open Idealize.ShloMosaic
open Cert.ReferenceIdeal Cert.ReferenceIdeal.Gen

/-! ## Single words -/

/-- The word of a small number is not negative, so it is not counted from the end. -/
theorem counted (k : Nat) (hk : k < 2 ^ 31) (x : BitVec 32) :
    Scalar.select (IntOp.cmpi .slt (BitVec.ofNat 32 k) 0#32) x (BitVec.ofNat 32 k) = BitVec.ofNat 32 k :=
  Routing.wrap_of_lt _ _ (by rw [BitVec.toNat_ofNat, Nat.mod_eq_of_lt (by omega)]; exact hk)

/-- A conjunction of ones is one. -/
theorem all_one {ι : Type} (s : Finset ι) : Finset.fold IntOp.andi (1#1) (fun _ => 1#1) s = 1#1 := by
  classical
  induction s using Finset.induction_on with
  | empty => rfl
  | insert a s ha ih => rw [Finset.fold_insert ha, ih]; rfl

/-- A choice by a bit that is one. -/
theorem chosen {α : Type} (p : BitVec 1) (hp : p = 1#1) (x y : α) : Scalar.select p x y = x := by
  subst hp; rfl

/-! ## Looking up by a list of words -/

/-- The index words as a column, negative ones counted from the end of `n` rows. -/
def column (n : BitVec 32) (a : IVec S4096 32) : IVec S4096x1 32 :=
  broadcastInDim S4096x1 ![0] bcast_S4096_S4096x1_0
    (select (cmpi .slt a (broadcastInDim S4096 ![] bcast_S_S4096 (constantI S_ 32 0#32)))
      (addi a (broadcastInDim S4096 ![] bcast_S_S4096 (constantI S_ 32 n))) a)

/-- The column at a word of a small number: this word. -/
theorem column_at (n : BitVec 32) (a : IVec S4096 32) (b : Fin 4096) (z : Fin 1) (k : Nat) (hk : k < 2 ^ 31)
    (h : a (ix1 b) = BitVec.ofNat 32 k) : column n a (ix2 b z) = BitVec.ofNat 32 k := by
  pointwise [column]
  rw [h]
  exact counted k hk _

/-- Which index words lie between 0 and `last`. -/
def inside (n last : BitVec 32) (a : IVec S4096 32) : IVec S4096 1 :=
  Host.reduce IntOp.andi
    (andi (cmpi .sge (column n a) (broadcastInDim S4096x1 ![] bcast_S_S4096x1 (constantI S_ 32 0#32)))
      (cmpi .sle (column n a) (broadcastInDim S4096x1 ![0, 1] bcast_S1x1_S4096x1_0_1 (broadcastInDim S1x1 ![1] bcast_S1_S1x1_1 (constantI S1 32 last)))))
    (constantI S_ 1 1#1) reducesTo_S4096x1_S4096_d1 h_S_

/-- The word of a row number lies inside. -/
theorem inside_at (n last : BitVec 32) (a : IVec S4096 32) (b : Fin 4096) (k : Nat) (hk : k < 2 ^ 31)
    (h : a (ix1 b) = BitVec.ofNat 32 k)
    (hin : IntOp.andi (IntOp.cmpi .sge (BitVec.ofNat 32 k) 0#32) (IntOp.cmpi .sle (BitVec.ofNat 32 k) last) = 1#1) :
    inside n last a (ix1 b) = 1#1 := by
  unfold inside
  pointwise
  simp only [column_at n a b _ k hk h, hin]
  exact all_one _

/-- The look-up of weekdays in their table. -/
def weekdays (a : IVec S4096 32) (x : FVec Ideal S7x3 .f32) : FVec Ideal S4096x3 .f32 :=
  select (broadcastInDim S4096x3 ![0] bcast_S4096_S4096x3_0 (inside 7#32 6#32 a))
    (Host.gather gather_S7x3_S4096x1_S4096x3_1_0_n_n_0_1_13 x (column 7#32 a))
    (broadcastInDim S4096x3 ![] bcast_S_S4096x3 (constant S_ .f32 0x7FC00000#32))

/-- The look-up of weekday `k` is row `k` of the table. -/
theorem weekdays_at (a : IVec S4096 32) (x : FVec Ideal S7x3 .f32) (b : Fin 4096) (j : Fin 3) (k : Fin 7)
    (h : a (ix1 b) = BitVec.ofNat 32 k.val) : weekdays a x (ix2 b j) = x (ix2 k j) := by
  pointwise [weekdays]
  refine (chosen _ (inside_at _ _ a b k.val (by omega) h ?_) _ _).trans ?_
  · exact (by decide +kernel : ∀ k : Fin 7, IntOp.andi (IntOp.cmpi .sge (BitVec.ofNat 32 k.val) 0#32) (IntOp.cmpi .sle (BitVec.ofNat 32 k.val) 6#32) = 1#1) k
  · rw [ix2_eq_valueIdx, ix2_eq_valueIdx]
    exact Routing.gather_row gather_S7x3_S4096x1_S4096x3_1_0_n_n_0_1_13 rfl rfl rfl rfl rfl x _ b j k
      (by rw [← ix2_eq_valueIdx]; exact column_at _ a b 0 k.val (by omega) h) (by decide)

/-- The look-up of start times in their table. -/
def starts (a : IVec S4096 32) (x : FVec Ideal S48x6 .f32) : FVec Ideal S4096x6 .f32 :=
  select (broadcastInDim S4096x6 ![0] bcast_S4096_S4096x6_0 (inside 48#32 47#32 a))
    (Host.gather gather_S48x6_S4096x1_S4096x6_1_0_n_n_0_1_16 x (column 48#32 a))
    (broadcastInDim S4096x6 ![] bcast_S_S4096x6 (constant S_ .f32 0x7FC00000#32))

/-- The look-up of start time `k` is row `k` of the table. -/
theorem starts_at (a : IVec S4096 32) (x : FVec Ideal S48x6 .f32) (b : Fin 4096) (j : Fin 6) (k : Fin 48)
    (h : a (ix1 b) = BitVec.ofNat 32 k.val) : starts a x (ix2 b j) = x (ix2 k j) := by
  pointwise [starts]
  refine (chosen _ (inside_at _ _ a b k.val (by omega) h ?_) _ _).trans ?_
  · exact (by decide +kernel : ∀ k : Fin 48, IntOp.andi (IntOp.cmpi .sge (BitVec.ofNat 32 k.val) 0#32) (IntOp.cmpi .sle (BitVec.ofNat 32 k.val) 47#32) = 1#1) k
  · rw [ix2_eq_valueIdx, ix2_eq_valueIdx]
    exact Routing.gather_row gather_S48x6_S4096x1_S4096x6_1_0_n_n_0_1_16 rfl rfl rfl rfl rfl x _ b j k
      (by rw [← ix2_eq_valueIdx]; exact column_at _ a b 0 k.val (by omega) h) (by decide)

/-! ## Looking up by a table of words -/

/-- The words of the classes with a last axis of one, negative ones counted from the end of nine rows. -/
def places (a : IVec S4096x200 32) : IVec S4096x200x1 32 :=
  broadcastInDim S4096x200x1 ![0, 1] bcast_S4096x200_S4096x200x1_0_1
    (select (cmpi .slt a (broadcastInDim S4096x200 ![] bcast_S_S4096x200 (constantI S_ 32 0#32)))
      (addi a (broadcastInDim S4096x200 ![] bcast_S_S4096x200 (constantI S_ 32 9#32))) a)

/-- At a word of a small number: this word. -/
theorem places_at (a : IVec S4096x200 32) (b : Fin 4096) (l : Fin 200) (z : Fin 1) (k : Nat) (hk : k < 2 ^ 31)
    (h : a (ix2 b l) = BitVec.ofNat 32 k) : places a (ix3 b l z) = BitVec.ofNat 32 k := by
  pointwise [places]
  rw [h]
  exact counted k hk _

/-- Which classes lie between 0 and 8. -/
def known (a : IVec S4096x200 32) : IVec S4096x200 1 :=
  Host.reduce IntOp.andi
    (andi (cmpi .sge (places a) (broadcastInDim S4096x200x1 ![] bcast_S_S4096x200x1 (constantI S_ 32 0#32)))
      (cmpi .sle (places a) (broadcastInDim S4096x200x1 ![0, 1, 2] bcast_S1x1x1_S4096x200x1_0_1_2
        (broadcastInDim S1x1x1 ![2] bcast_S1_S1x1x1_2 (constantI S1 32 8#32)))))
    (constantI S_ 1 1#1) reducesTo_S4096x200x1_S4096x200_d2 h_S_

/-- The word of a class lies inside. -/
theorem known_at (a : IVec S4096x200 32) (b : Fin 4096) (l : Fin 200) (k : Fin 9) (h : a (ix2 b l) = BitVec.ofNat 32 k.val) :
    known a (ix2 b l) = 1#1 := by
  unfold known
  pointwise
  simp only [places_at a b l _ k.val (by omega) h,
    (by decide +kernel : ∀ k : Fin 9, IntOp.andi (IntOp.cmpi .sge (BitVec.ofNat 32 k.val) 0#32) (IntOp.cmpi .sle (BitVec.ofNat 32 k.val) 8#32) = 1#1) k]
  exact all_one _

/-- Rows of a table gathered by a table of words: where the word is a row number, the entry is the table's in this row. -/
theorem gather_at (x : FVec Ideal S9x3 .f32) (idx : IVec S4096x200x1 32) (b : Fin 4096) (l : Fin 200) (j : Fin 3) (k : Fin 9)
    (h : idx (ix3 b l 0) = BitVec.ofNat 32 k.val) :
    Host.gather gather_S9x3_S4096x200x1_S4096x200x3_2_0_n_n_0_2_13 x idx (ix3 b l j) = x (ix2 k j) := by
  unfold Host.gather
  refine congrArg x (funext fun a => Fin.ext ?_)
  have none : ∀ a, a ∉ gather_S9x3_S4096x200x1_S4096x200x3_2_0_n_n_0_2_13.operandBatchingDims := fun a => List.not_mem_nil
  match a with
  | ⟨0, _⟩ =>
    show GatherDims.start _ (ix3 b l j) idx 0 + GatherDims.batchCoord _ (ix3 b l j) 0 + GatherDims.offCoord _ (ix3 b l j) 0 = k.val
    rw [GatherDims.batchCoord_eq_zero _ _ _ (none 0), GatherDims.offCoord_eq_zero _ _ _ (by decide)]
    unfold GatherDims.start
    rw [dif_pos (by decide)]
    have place : gather_S9x3_S4096x200x1_S4096x200x3_2_0_n_n_0_2_13.siIdx (ix3 b l j) ⟨0, by decide⟩ = ix3 b l 0 := by
      funext q
      match q with
      | ⟨0, _⟩ => rfl
      | ⟨1, _⟩ => rfl
      | ⟨2, _⟩ => rfl
    show min (idx (gather_S9x3_S4096x200x1_S4096x200x3_2_0_n_n_0_2_13.siIdx (ix3 b l j) ⟨0, _⟩)).toInt.toNat (9 - 1) + 0 + 0 = k.val
    rw [place, h]
    exact (by decide +kernel : ∀ k : Fin 9, min (BitVec.ofNat 32 k.val).toInt.toNat (9 - 1) + 0 + 0 = k.val) k
  | ⟨1, _⟩ =>
    show GatherDims.start _ (ix3 b l j) idx 1 + GatherDims.batchCoord _ (ix3 b l j) 1 + GatherDims.offCoord _ (ix3 b l j) 1 = j.val
    rw [GatherDims.batchCoord_eq_zero _ _ _ (none 1)]
    unfold GatherDims.start GatherDims.offCoord
    rw [dif_neg (by decide), dif_pos (by decide)]
    show 0 + 0 + j.val = j.val
    omega

/-- The look-up of classes in a table. -/
def classes (a : IVec S4096x200 32) (x : FVec Ideal S9x3 .f32) : FVec Ideal S4096x200x3 .f32 :=
  select (broadcastInDim S4096x200x3 ![0, 1] bcast_S4096x200_S4096x200x3_0_1 (known a))
    (Host.gather gather_S9x3_S4096x200x1_S4096x200x3_2_0_n_n_0_2_13 x (places a))
    (broadcastInDim S4096x200x3 ![] bcast_S_S4096x200x3 (constant S_ .f32 0x7FC00000#32))

/-- The look-up of class `k` is row `k` of the table. -/
theorem classes_at (a : IVec S4096x200 32) (x : FVec Ideal S9x3 .f32) (b : Fin 4096) (l : Fin 200) (j : Fin 3) (k : Fin 9)
    (h : a (ix2 b l) = BitVec.ofNat 32 k.val) : classes a x (ix3 b l j) = x (ix2 k j) := by
  pointwise [classes]
  refine (chosen _ (known_at a b l k h) _ _).trans (gather_at x _ b l j k ?_)
  exact places_at a b l 0 k.val (by omega) h

/-! ## Row 0 of the table of classes -/

/-- The table with its row 0 set to zero. -/
def padded (x : FVec Ideal S9x3 .f32) : FVec Ideal S9x3 .f32 :=
  Host.scatter scatter_S9x3_S1_S3_0_0_0_0 (fun _ b => b) x (broadcastInDim S1 ![] bcast_S_S1 (constantI S_ 32 0#32))
    (broadcastInDim S3 ![] bcast_S_S3 (constant S_ .f32 0x00000000#32))

/-- Row 0 reads zero, each other row as before. -/
theorem padded_at (x : FVec Ideal S9x3 .f32) (k : Fin 9) (j : Fin 3) :
    padded x (ix2 k j) = if k.val = 0 then (0 : EReal) else x (ix2 k j) := by
  have lands : ∀ q : Fin 3, scatter_S9x3_S1_S3_0_0_0_0.resultIdx? (ix1 q) (broadcastInDim S1 ![] bcast_S_S1 (constantI S_ 32 0#32))
      = some (ix2 k j) ↔ k.val = 0 ∧ q.val = j.val := fun q => by
    rw [Routing.resultIdx?_eq_some]
    constructor
    · intro h
      have a := h 0
      have b := h 1
      have a' : (0 : Int) + (0 : Nat) = (k.val : Int) := a
      have b' : (0 : Int) + (q.val : Nat) = (j.val : Int) := b
      omega
    · rintro ⟨a, b⟩ r
      match r with
      | ⟨0, _⟩ => show (0 : Int) + (0 : Nat) = (k.val : Int); omega
      | ⟨1, _⟩ => show (0 : Int) + (q.val : Nat) = (j.val : Int); omega
  unfold padded
  by_cases h : k.val = 0
  · rw [if_pos h]
    exact Routing.scatter_set_hit _ x _ _ _ (0 : EReal) (fun q _ => by idx_vars q; pointwise) (ix1 j) ((lands j).2 ⟨h, rfl⟩)
  · rw [if_neg h]
    refine Routing.scatter_set_miss _ x _ _ _ fun q hq => h ?_
    rw [eq_ix1 q] at hq
    exact ((lands _).1 hq).1

end Cert.Take
-- ==== Proof.ReferenceArrays.lean ====
/-
  The reference's two results are the plain form, where the index arrays hold the words of row numbers.
-/
module

public import proofs.«01_k».proof.Proof.Gen.ReferenceIdeal.Run
public import proofs.«01_k».proof.Proof.Take
public import proofs.«01_k».proof.Proof.Spec
public import Idealize.ShloMosaic.Lib.StableHlo.ReadAt

@[expose] public section

set_option maxRecDepth 16384

noncomputable section

namespace Cert.ReferenceArrays

open Idealize.ShloMosaic Idealize.ShloMosaic.TcCoe
open Cert.ReferenceIdeal Cert.ReferenceIdeal.Gen

/-! ## The embeddings of the trips -/

/-- The reference's trips: the looked up weekdays and start times and the one-hots' products side by side. -/
def joined (a0 a1 : IVec S4096 32) (a2 : FVec Ideal S4096x8 .f32) (t9 : FVec Ideal S7x3 .f32) (t10 : FVec Ideal S48x6 .f32)
    (t12 : FVec Ideal S3x8 .f32) : FVec Ideal S4096x12 .f32 :=
  concatenate S4096x12 1 [⟨S4096x3, Take.weekdays a0 t9⟩, ⟨S4096x6, Take.starts a1 t10⟩,
    ⟨S4096x3, (Host.dotGeneral dot_S4096x8_S8x3_S4096x3_1_0_0_1_n_n none a2
      (transpose S8x3 [1, 0] t12 transposes_S3x8_S8x3_1_0) : FVec Ideal S4096x3 .f32)⟩]
    concatenates_S4096x3_S4096x6_S4096x3_S4096x12_d1

/-- Row `b` of the trips, where the index words are those of weekday `w` and start time `s`. -/
theorem joined_at (a0 a1 : IVec S4096 32) (a2 : FVec Ideal S4096x8 .f32) (t9 : FVec Ideal S7x3 .f32) (t10 : FVec Ideal S48x6 .f32)
    (t12 : FVec Ideal S3x8 .f32) (b : Fin 4096) (j : Fin 12) (w : Fin 7) (s : Fin 48) (hw : a0 (ix1 b) = BitVec.ofNat 32 w.val)
    (hs : a1 (ix1 b) = BitVec.ofNat 32 s.val) :
    joined a0 a1 a2 t9 t10 t12 (ix2 b j) = Spec.trip t9 t10 t12 w s (fun q => a2 (ix2 b q)) j := by
  pointwise [joined]
  unfold Spec.trip
  by_cases h3 : j.val < 3
  · rw [dif_pos h3, dif_pos h3]
    exact Take.weekdays_at a0 t9 b ⟨j.val, h3⟩ w hw
  · rw [dif_neg h3, dif_neg h3]
    by_cases h6 : j.val - 3 < 6
    · rw [dif_pos h6, dif_pos h6]
      exact Take.starts_at a1 t10 b ⟨j.val - 3, h6⟩ s hs
    · rw [dif_neg h6, dif_neg h6]

/-! ## The points -/

/-- A list of numbers per point as a last axis of one. -/
def last (x : FVec Ideal S4096x200 .f32) : FVec Ideal S4096x200x1 .f32 :=
  broadcastInDim S4096x200x1 ![0, 1] bcast_S4096x200_S4096x200x1_0_1 x

/-- The last axis of one changes no entry. -/
theorem last_at (x : FVec Ideal S4096x200 .f32) (b : Fin 4096) (l : Fin 200) (z : Fin 1) : last x (ix3 b l z) = x (ix2 b l) := by
  pointwise [last]

/-- The reference's points from its trips: five numbers, the trip repeated, and the looked up class side by side. -/
def stacked (e : FVec Ideal S4096x12 .f32) (a3 a4 a5 a6 a7 : FVec Ideal S4096x200 .f32) (a8 : IVec S4096x200 32)
    (t11 : FVec Ideal S9x3 .f32) : FVec Ideal S4096x200x20 .f32 :=
  concatenate S4096x200x20 2
    [⟨S4096x200x2, concatenate S4096x200x2 2 [⟨S4096x200x1, last a3⟩, ⟨S4096x200x1, last a4⟩] concatenates_S4096x200x1_S4096x200x1_S4096x200x2_d2⟩,
      ⟨S4096x200x1, last a5⟩, ⟨S4096x200x1, last a6⟩, ⟨S4096x200x1, last a7⟩,
      ⟨S4096x200x15, concatenate S4096x200x15 2
        [⟨S4096x200x12, broadcastInDim S4096x200x12 ![0, 1, 2] bcast_S4096x1x12_S4096x200x12_0_1_2 (broadcastInDim S4096x1x12 ![0, 2] bcast_S4096x12_S4096x1x12_0_2 e)⟩,
          ⟨S4096x200x3, Take.classes a8 (Take.padded t11)⟩] concatenates_S4096x200x12_S4096x200x3_S4096x200x15_d2⟩]
    concatenates_S4096x200x2_S4096x200x1_S4096x200x1_S4096x200x1_S4096x200x15_S4096x200x20_d2

/-- Point `l` of trip `b`, where its class word is that of `p`. -/
theorem stacked_at (e : FVec Ideal S4096x12 .f32) (a3 a4 a5 a6 a7 : FVec Ideal S4096x200 .f32) (a8 : IVec S4096x200 32)
    (t11 : FVec Ideal S9x3 .f32) (b : Fin 4096) (l : Fin 200) (j : Fin 20) (p : Fin 9) (hp : a8 (ix2 b l) = BitVec.ofNat 32 p.val) :
    stacked e a3 a4 a5 a6 a7 a8 t11 (ix3 b l j)
      = Spec.point t11 (a3 (ix2 b l)) (a4 (ix2 b l)) (a5 (ix2 b l)) (a6 (ix2 b l)) (a7 (ix2 b l)) (fun q => e (ix2 b q)) p j := by
  pointwise [stacked]
  have looked : ∀ q : Fin 3, Take.classes a8 (Take.padded t11) (ix3 b l q) = if p.val = 0 then (0 : EReal) else t11 (ix2 p q) :=
    fun q => (Take.classes_at a8 (Take.padded t11) b l q p hp).trans (Take.padded_at t11 p q)
  simp only [last_at, looked]
  unfold Spec.point
  obtain ⟨j, hj⟩ := j
  interval_cases j <;> simp

/-! ## The results -/

variable (m : (ℓ : Loc nD τ sig) → Buf (Elt Ideal) ℓ) (c : Dev nD)
variable (w : Fin 4096 → Fin 7) (s : Fin 4096 → Fin 48) (p : Fin 4096 → Fin 200 → Fin 9)
variable (H : Spec.Indices (m ((c : Thread nD τ).loc main_arg0)) (m ((c : Thread nD τ).loc main_arg1)) (m ((c : Thread nD τ).loc main_arg8)) w s p)
include H

/-- The second result. -/
theorem result1 :
    joined (m ((c : Thread nD τ).loc main_arg0)) (m ((c : Thread nD τ).loc main_arg1)) (m ((c : Thread nD τ).loc main_arg2))
        (m ((c : Thread nD τ).loc main_arg9)) (m ((c : Thread nD τ).loc main_arg10)) (m ((c : Thread nD τ).loc main_arg12))
      = Spec.trips (m ((c : Thread nD τ).loc main_arg2)) (m ((c : Thread nD τ).loc main_arg9)) (m ((c : Thread nD τ).loc main_arg10))
        (m ((c : Thread nD τ).loc main_arg12)) w s := by
  funext y
  obtain ⟨b, j, rfl⟩ : ∃ (b : Fin 4096) (j : Fin 12), y = ix2 b j := ⟨y 0, y 1, eq_ix2 y⟩
  exact joined_at _ _ _ _ _ _ b j (w b) (s b) (H.weekday b) (H.start b)

/-- The first result. -/
theorem result0 : Value.res_main_v18 (F := Ideal) m c
    = Spec.points (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg9)) (m ((c : Thread nD τ).loc main_arg10)) (m ((c : Thread nD τ).loc main_arg11))
        (m ((c : Thread nD τ).loc main_arg12)) w s p := by
  have plain : Value.res_main_v18 (F := Ideal) m c
      = stacked (joined (m ((c : Thread nD τ).loc main_arg0)) (m ((c : Thread nD τ).loc main_arg1)) (m ((c : Thread nD τ).loc main_arg2))
          (m ((c : Thread nD τ).loc main_arg9)) (m ((c : Thread nD τ).loc main_arg10)) (m ((c : Thread nD τ).loc main_arg12)))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg11)) := rfl
  rw [plain, result1 m c w s p H]
  funext y
  obtain ⟨b, l, j, rfl⟩ : ∃ (b : Fin 4096) (l : Fin 200) (j : Fin 20), y = ix3 b l j := ⟨y 0, y 1, y 2, eq_ix3 y⟩
  exact stacked_at _ _ _ _ _ _ _ _ b l j (p b l) (H.place b l)

end Cert.ReferenceArrays
-- ==== Proof.Ranges.lean ====
/-
  What the precondition says: each index word is the word of a row number of its table.
-/
module

public import proofs.«01_k».proof.Proof.Gen.Pre_indices_in_range
public import proofs.«01_k».proof.Proof.Spec
public import Idealize.ShloMosaic.Lib.Pointwise
public import Idealize.ShloMosaic.Lib.StableHlo.Predicate

@[expose] public section

set_option maxRecDepth 16384

noncomputable section

namespace Cert.Ranges

open Idealize.ShloMosaic
open Cert.Pre_indices_in_range Cert.Pre_indices_in_range.Gen

/-- A word that is at least 0 and less than `n`, both signed, is the word of a number less than `n`. -/
theorem word_of_range (n : Nat) (hn : n < 2 ^ 31) (x : BitVec 32)
    (h : IntOp.andi (IntOp.cmpi .sge x 0#32) (IntOp.cmpi .slt x (BitVec.ofNat 32 n)) = 1#1) :
    ∃ k : Fin n, x = BitVec.ofNat 32 k.val := by
  have sign : (BitVec.ofNat 32 n).toInt = (n : Int) := StableHlo.Predicate.toInt_ofNat_small n hn
  have both : (0 : Int) ≤ x.toInt ∧ x.toInt < (n : Int) := by
    by_cases a : (0 : Int) ≤ x.toInt <;> by_cases b : x.toInt < (n : Int)
    · exact ⟨a, b⟩
    all_goals
      exfalso
      simp [IntOp.cmpi, IntOp.andi, BitVec.sle, BitVec.slt, sign, a, b] at h
  have unsigned : x.toInt = (x.toNat : Int) := by
    have := BitVec.toInt_eq_toNat_cond x
    have := x.isLt
    split_ifs at * <;> omega
  refine ⟨⟨x.toNat, by omega⟩, ?_⟩
  exact BitVec.eq_of_toNat_eq (by rw [BitVec.toNat_ofNat, Nat.mod_eq_of_lt x.isLt])

/-- The precondition gives the weekdays, the start times and the classes that the index arrays hold. -/
theorem indices (a0 a1 : IVec S4096 32) (a2 : FVec Ideal S4096x8 .f32) (a3 a4 a5 a6 a7 : FVec Ideal S4096x200 .f32)
    (a8 : IVec S4096x200 32) (a9 : FVec Ideal S7x3 .f32) (a10 : FVec Ideal S48x6 .f32) (a11 : FVec Ideal S9x3 .f32)
    (a12 : FVec Ideal S3x8 .f32)
    (h0 : (fn (F := Ideal) a0 a1 a2 a3 a4 a5 a6 a7 a8 a9 a10 a11 a12).1 = fun _ => 1#1)
    (h1 : (fn (F := Ideal) a0 a1 a2 a3 a4 a5 a6 a7 a8 a9 a10 a11 a12).2.1 = fun _ => 1#1)
    (h8 : (fn (F := Ideal) a0 a1 a2 a3 a4 a5 a6 a7 a8 a9 a10 a11 a12).2.2 = fun _ => 1#1) :
    ∃ w s p, Spec.Indices a0 a1 a8 w s p := by
  have weekday : ∀ b : Fin 4096, ∃ k : Fin 7, a0 (ix1 b) = BitVec.ofNat 32 k.val :=
    fun b => word_of_range 7 (by decide) _ (congrFun h0 (ix1 b))
  have start : ∀ b : Fin 4096, ∃ k : Fin 48, a1 (ix1 b) = BitVec.ofNat 32 k.val :=
    fun b => word_of_range 48 (by decide) _ (congrFun h1 (ix1 b))
  have place : ∀ (b : Fin 4096) (l : Fin 200), ∃ k : Fin 9, a8 (ix2 b l) = BitVec.ofNat 32 k.val :=
    fun b l => word_of_range 9 (by decide) _ (congrFun h8 (ix2 b l))
  choose w hw using weekday
  choose s hs using start
  choose p hp using place
  exact ⟨w, s, p, hw, hs, hp⟩

end Cert.Ranges
-- ==== Proof.lean ====
/-
  The claims: the kernel, its program over the extended reals and the reference run to the end and leave their arguments as they were;
  and where the index arrays are in range, kernel and reference leave the same two results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_indices_in_range
public import proofs.«01_k».proof.Proof.KernelArrays
public import proofs.«01_k».proof.Proof.ReferenceArrays
public import proofs.«01_k».proof.Proof.Ranges
public import Idealize.ShloMosaic.Adequacy
public import Idealize.ShloMosaic.Init

@[expose] public section

noncomputable section

namespace Cert.Proof

open Idealize.ShloMosaic Idealize.SL.Sem Idealize.ShloMosaic.TcCoe

/-! ## The programs run to the end and keep their arguments -/

/-- The kernel over machine words. -/
theorem frame_kernel : Cert.quiescent_Kernel := fun m ρ _ => Cert.Kernel.Gen.frame m ρ

/-- The kernel over the extended reals. -/
theorem frame_ideal : Cert.quiescent_KernelIdeal := fun m ρ _ => Cert.KernelIdeal.Gen.frame m ρ

/-- The same, where the index arrays are in range. -/
theorem frame_ideal_pre : Cert.quiescent_KernelIdeal_pre_indices_in_range := fun m ρ _ => Cert.KernelIdeal.Gen.frame m ρ

/-- The reference over the extended reals. -/
theorem frame_reference : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- The same, where the index arrays are in range. -/
theorem frame_reference_pre : Cert.quiescent_ReferenceIdeal_pre_indices_in_range := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-! ## The results agree -/

/-- Both results, where the index arrays are in range: kernel and reference leave the plain form. -/
theorem algebraic : Cert.algebraic_KernelIdeal_ReferenceIdeal_pre_indices_in_range := fun m ρ m' ρ' pre same => by
  have held := fun c => Ranges.indices _ _ _ _ _ _ _ _ _ _ _ _ _ (pre c).1 (pre c).2.1 (pre c).2.2
  choose w s p H using held
  have H' : ∀ c : Dev Cert.ReferenceIdeal.nD, Spec.Indices (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg8)) (w c) (s c) (p c) := fun c => by
    obtain ⟨e0, e1, _, _, _, _, _, _, e8, _⟩ := same c
    rw [e0, e1, e8]
    exact H c
  refine ⟨fun c => Spec.points
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) (w c) (s c) (p c),
    fun c => Spec.trips
      (m ((c.tc : Thread Cert.KernelIdeal.nD Cert.KernelIdeal.τ).loc Cert.KernelIdeal.main_arg2))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg12)) (w c) (s c),
    (θ_run Cert.KernelIdeal.defs _ _).mono (fun r h c => ⟨?_, ?_, (h c).2.2⟩) (Cert.KernelIdeal.Value.run_blocks m ρ),
    (θ_run Cert.ReferenceIdeal.defs _ _).mono (fun r h c => ⟨?_, ?_, (h c).2.2⟩) (Cert.ReferenceIdeal.Value.run (F := Ideal) m' ρ')⟩
  · exact (h c).1.trans (KernelArrays.final12 m c (H c))
  · exact (h c).2.1.trans (KernelArrays.final13 m c (H c))
  · refine (h c).1.trans ((ReferenceArrays.result0 m' c _ _ _ (H' c)).trans ?_)
    obtain ⟨_, _, e2, e3, e4, e5, e6, e7, _, e9, e10, e11, e12⟩ := same c
    rw [e2, e3, e4, e5, e6, e7, e9, e10, e11, e12]
  · refine (h c).2.1.trans ((ReferenceArrays.result1 m' c _ _ _ (H' c)).trans ?_)
    obtain ⟨_, _, e2, _, _, _, _, _, _, e9, e10, _, e12⟩ := same c
    rw [e2, e9, e10, e12]

/-- All claims together. -/
theorem claim : Cert.Claim := ⟨Cert.Kernel.Gen.facts, Cert.KernelIdeal.Gen.facts, Cert.ReferenceIdeal.Gen.facts,
  Cert.Pre_indices_in_range.Gen.facts, frame_kernel, frame_ideal, frame_ideal_pre, frame_reference, frame_reference_pre, trivial, algebraic⟩

end Cert.Proof

end
